-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S16 : Shape := ⟨1, ![16]⟩
abbrev S_ : Shape := ⟨0, ![]⟩
abbrev S512x512 : Shape := ⟨2, ![512, 512]⟩
abbrev S1 : Shape := ⟨1, ![1]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .bf16⟩
  | .hbm, ⟨1, _⟩ => ⟨S2048x512, .bf16⟩
  | .local _ .vmem, ⟨0, _⟩ => ⟨S1024x512, .bf16⟩
  | .local _ .vmem, ⟨1, _⟩ => ⟨S2048x512, .bf16⟩
  | _, _ => ⟨S1024x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_17 : BitVec 32 := 512#32
  let v28 : BitVec 32 := Scalar.muli v5 c512_i32_17
  let v29 : Index := Scalar.indexCast v28
  let c0 : Index := 0#32
  ![v29.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let v19 : BitVec 32 := Scalar.addi v17 v18
  let v32 : Index := Scalar.indexCast v19
  let c0_18 : Index := 0#32
  ![v32.toNat, 0]
def k0_off3 (d0 : Dev nD) (c0_i32_20 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let v19 : BitVec 32 := Scalar.addi v17 v18
  let v34 : BitVec 32 := Scalar.addi v19 c0_i32_20
  let c0_i32_26 : BitVec 32 := 0#32
  ![v34.toNat, 0]
def k0_dev3 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v35 : BitVec 32 := Scalar.muli v6 c2_i32_23
  let v36 : BitVec 32 := Scalar.addi c0_i32_24 v35
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v37 : BitVec 32 := Scalar.muli v5 c1_i32_25
  let v38 : BitVec 32 := Scalar.addi v36 v37
  v38.toNat
def k0_dev4 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v46 : BitVec 32 := Scalar.muli v6 c2_i32_30
  let v47 : BitVec 32 := Scalar.addi c0_i32_31 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v48 : BitVec 32 := Scalar.muli v5 c1_i32_32
  let v49 : BitVec 32 := Scalar.addi v47 v48
  v49.toNat
def k0_dev5 (d0 : Dev nD) : Nat :=
  let c0_i32_38 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_37 : BitVec 32 := 2#32
  let v57 : BitVec 32 := Scalar.muli v6 c2_i32_37
  let v58 : BitVec 32 := Scalar.addi c0_i32_38 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v59 : BitVec 32 := Scalar.muli v5 c1_i32_39
  let v60 : BitVec 32 := Scalar.addi v58 v59
  v60.toNat
def k0_dev6 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v68 : BitVec 32 := Scalar.muli v6 c2_i32_43
  let v69 : BitVec 32 := Scalar.addi c0_i32_44 v68
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v70 : BitVec 32 := Scalar.muli v5 c1_i32_45
  let v71 : BitVec 32 := Scalar.addi v69 v70
  v71.toNat
def k0_dev7 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v79 : BitVec 32 := Scalar.muli v6 c2_i32_49
  let v80 : BitVec 32 := Scalar.addi c0_i32_50 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v81 : BitVec 32 := Scalar.muli v5 c1_i32_51
  let v82 : BitVec 32 := Scalar.addi v80 v81
  v82.toNat
def k0_dev8 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v90 : BitVec 32 := Scalar.muli v6 c2_i32_55
  let v91 : BitVec 32 := Scalar.addi c0_i32_56 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v92 : BitVec 32 := Scalar.muli v5 c1_i32_57
  let v93 : BitVec 32 := Scalar.addi v91 v92
  v93.toNat
def k0_dev9 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v101 : BitVec 32 := Scalar.muli v6 c2_i32_61
  let v102 : BitVec 32 := Scalar.addi c0_i32_62 v101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v103 : BitVec 32 := Scalar.muli v5 c1_i32_63
  let v104 : BitVec 32 := Scalar.addi v102 v103
  v104.toNat
def k0_dev10 (d0 : Dev nD) : Nat :=
  let c0_i32_68 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_67 : BitVec 32 := 2#32
  let v112 : BitVec 32 := Scalar.muli v6 c2_i32_67
  let v113 : BitVec 32 := Scalar.addi c0_i32_68 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v114 : BitVec 32 := Scalar.muli v5 c1_i32_69
  let v115 : BitVec 32 := Scalar.addi v113 v114
  v115.toNat
def k0_dev11 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v123 : BitVec 32 := Scalar.muli v6 c2_i32_73
  let v124 : BitVec 32 := Scalar.addi c0_i32_74 v123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v125 : BitVec 32 := Scalar.muli v5 c1_i32_75
  let v126 : BitVec 32 := Scalar.addi v124 v125
  v126.toNat
def k0_dev12 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v134 : BitVec 32 := Scalar.muli v6 c2_i32_79
  let v135 : BitVec 32 := Scalar.addi c0_i32_80 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v136 : BitVec 32 := Scalar.muli v5 c1_i32_81
  let v137 : BitVec 32 := Scalar.addi v135 v136
  v137.toNat
def k0_dev13 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v145 : BitVec 32 := Scalar.muli v6 c2_i32_85
  let v146 : BitVec 32 := Scalar.addi c0_i32_86 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v147 : BitVec 32 := Scalar.muli v5 c1_i32_87
  let v148 : BitVec 32 := Scalar.addi v146 v147
  v148.toNat
def k0_dev14 (d0 : Dev nD) : Nat :=
  let c0_i32_92 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_91 : BitVec 32 := 2#32
  let v156 : BitVec 32 := Scalar.muli v6 c2_i32_91
  let v157 : BitVec 32 := Scalar.addi c0_i32_92 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v158 : BitVec 32 := Scalar.muli v5 c1_i32_93
  let v159 : BitVec 32 := Scalar.addi v157 v158
  v159.toNat
def k0_dev15 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v167 : BitVec 32 := Scalar.muli v6 c2_i32_97
  let v168 : BitVec 32 := Scalar.addi c0_i32_98 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v169 : BitVec 32 := Scalar.muli v5 c1_i32_99
  let v170 : BitVec 32 := Scalar.addi v168 v169
  v170.toNat
def k0_dev16 (d0 : Dev nD) : Nat :=
  let c0_i32_104 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_103 : BitVec 32 := 2#32
  let v178 : BitVec 32 := Scalar.muli v6 c2_i32_103
  let v179 : BitVec 32 := Scalar.addi c0_i32_104 v178
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v180 : BitVec 32 := Scalar.muli v5 c1_i32_105
  let v181 : BitVec 32 := Scalar.addi v179 v180
  v181.toNat
def k0_dev17 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v189 : BitVec 32 := Scalar.muli v6 c2_i32_109
  let v190 : BitVec 32 := Scalar.addi c0_i32_110 v189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v191 : BitVec 32 := Scalar.muli v5 c1_i32_111
  let v192 : BitVec 32 := Scalar.addi v190 v191
  v192.toNat
def k0_dev18 (d0 : Dev nD) : Nat :=
  let c0_i32_116 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_115 : BitVec 32 := 2#32
  let v200 : BitVec 32 := Scalar.muli v6 c2_i32_115
  let v201 : BitVec 32 := Scalar.addi c0_i32_116 v200
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v202 : BitVec 32 := Scalar.muli v5 c1_i32_117
  let v203 : BitVec 32 := Scalar.addi v201 v202
  v203.toNat
def k0_off4 (d0 : Dev nD) : Fin 2 → Nat :=
  let c1_i32_120 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v210 : BitVec 32 := Scalar.subi c1_i32_120 v5
  let c512_i32_121 : BitVec 32 := 512#32
  let v211 : BitVec 32 := Scalar.muli v210 c512_i32_121
  let v212 : Index := Scalar.indexCast v211
  let c0_122 : Index := 0#32
  ![v212.toNat, 0]
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_11 : BitVec 32 := 1024#32
  let v20 : BitVec 32 := Scalar.muli v2 c1024_i32_11
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_12 v5
  let c512_i32_13 : BitVec 32 := 512#32
  let v22 : BitVec 32 := Scalar.muli v21 c512_i32_13
  let v23 : BitVec 32 := Scalar.addi v20 v22
  let v215 : Index := Scalar.indexCast v23
  let c0_123 : Index := 0#32
  ![v215.toNat, 0]
def k0_off6 (d0 : Dev nD) (c0_i32_131 : BitVec 32) : Fin 2 → Nat :=
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v24 : BitVec 32 := Scalar.subi c1_i32_14 v2
  let c1024_i32_15 : BitVec 32 := 1024#32
  let v25 : BitVec 32 := Scalar.muli v24 c1024_i32_15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_16 : BitVec 32 := 512#32
  let v26 : BitVec 32 := Scalar.muli v5 c512_i32_16
  let v27 : BitVec 32 := Scalar.addi v25 v26
  let v225 : BitVec 32 := Scalar.addi v27 c0_i32_131
  let c0_i32_137 : BitVec 32 := 0#32
  ![v225.toNat, 0]
def k0_dev19 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v226 : BitVec 32 := Scalar.muli v2 c2_i32_134
  let v227 : BitVec 32 := Scalar.addi c0_i32_135 v226
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_136 : BitVec 32 := 1#32
  let v228 : BitVec 32 := Scalar.muli v7 c1_i32_136
  let v229 : BitVec 32 := Scalar.addi v227 v228
  v229.toNat
def k0_dev20 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v245 : BitVec 32 := Scalar.muli v2 c2_i32_149
  let v246 : BitVec 32 := Scalar.addi c0_i32_150 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_151 : BitVec 32 := 1#32
  let v247 : BitVec 32 := Scalar.muli v7 c1_i32_151
  let v248 : BitVec 32 := Scalar.addi v246 v247
  v248.toNat
def k0_dev21 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v264 : BitVec 32 := Scalar.muli v2 c2_i32_164
  let v265 : BitVec 32 := Scalar.addi c0_i32_165 v264
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_166 : BitVec 32 := 1#32
  let v266 : BitVec 32 := Scalar.muli v7 c1_i32_166
  let v267 : BitVec 32 := Scalar.addi v265 v266
  v267.toNat
def k0_dev22 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_179 : BitVec 32 := 2#32
  let v283 : BitVec 32 := Scalar.muli v2 c2_i32_179
  let v284 : BitVec 32 := Scalar.addi c0_i32_180 v283
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_181 : BitVec 32 := 1#32
  let v285 : BitVec 32 := Scalar.muli v7 c1_i32_181
  let v286 : BitVec 32 := Scalar.addi v284 v285
  v286.toNat
def k0_dev23 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v302 : BitVec 32 := Scalar.muli v2 c2_i32_194
  let v303 : BitVec 32 := Scalar.addi c0_i32_195 v302
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_196 : BitVec 32 := 1#32
  let v304 : BitVec 32 := Scalar.muli v7 c1_i32_196
  let v305 : BitVec 32 := Scalar.addi v303 v304
  v305.toNat
def k0_dev24 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v321 : BitVec 32 := Scalar.muli v2 c2_i32_209
  let v322 : BitVec 32 := Scalar.addi c0_i32_210 v321
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_211 : BitVec 32 := 1#32
  let v323 : BitVec 32 := Scalar.muli v7 c1_i32_211
  let v324 : BitVec 32 := Scalar.addi v322 v323
  v324.toNat
def k0_dev25 (d0 : Dev nD) : Nat :=
  let c0_i32_225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_224 : BitVec 32 := 2#32
  let v340 : BitVec 32 := Scalar.muli v2 c2_i32_224
  let v341 : BitVec 32 := Scalar.addi c0_i32_225 v340
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_226 : BitVec 32 := 1#32
  let v342 : BitVec 32 := Scalar.muli v7 c1_i32_226
  let v343 : BitVec 32 := Scalar.addi v341 v342
  v343.toNat
def k0_dev26 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_239 : BitVec 32 := 2#32
  let v359 : BitVec 32 := Scalar.muli v2 c2_i32_239
  let v360 : BitVec 32 := Scalar.addi c0_i32_240 v359
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_241 : BitVec 32 := 1#32
  let v361 : BitVec 32 := Scalar.muli v7 c1_i32_241
  let v362 : BitVec 32 := Scalar.addi v360 v361
  v362.toNat
def k0_dev27 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v378 : BitVec 32 := Scalar.muli v2 c2_i32_254
  let v379 : BitVec 32 := Scalar.addi c0_i32_255 v378
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_256 : BitVec 32 := 1#32
  let v380 : BitVec 32 := Scalar.muli v7 c1_i32_256
  let v381 : BitVec 32 := Scalar.addi v379 v380
  v381.toNat
def k0_dev28 (d0 : Dev nD) : Nat :=
  let c0_i32_270 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_269 : BitVec 32 := 2#32
  let v397 : BitVec 32 := Scalar.muli v2 c2_i32_269
  let v398 : BitVec 32 := Scalar.addi c0_i32_270 v397
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_271 : BitVec 32 := 1#32
  let v399 : BitVec 32 := Scalar.muli v7 c1_i32_271
  let v400 : BitVec 32 := Scalar.addi v398 v399
  v400.toNat
def k0_dev29 (d0 : Dev nD) : Nat :=
  let c0_i32_285 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_284 : BitVec 32 := 2#32
  let v416 : BitVec 32 := Scalar.muli v2 c2_i32_284
  let v417 : BitVec 32 := Scalar.addi c0_i32_285 v416
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_286 : BitVec 32 := 1#32
  let v418 : BitVec 32 := Scalar.muli v7 c1_i32_286
  let v419 : BitVec 32 := Scalar.addi v417 v418
  v419.toNat
def k0_dev30 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v435 : BitVec 32 := Scalar.muli v2 c2_i32_299
  let v436 : BitVec 32 := Scalar.addi c0_i32_300 v435
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_301 : BitVec 32 := 1#32
  let v437 : BitVec 32 := Scalar.muli v7 c1_i32_301
  let v438 : BitVec 32 := Scalar.addi v436 v437
  v438.toNat
def k0_dev31 (d0 : Dev nD) : Nat :=
  let c0_i32_315 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_314 : BitVec 32 := 2#32
  let v454 : BitVec 32 := Scalar.muli v2 c2_i32_314
  let v455 : BitVec 32 := Scalar.addi c0_i32_315 v454
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_316 : BitVec 32 := 1#32
  let v456 : BitVec 32 := Scalar.muli v7 c1_i32_316
  let v457 : BitVec 32 := Scalar.addi v455 v456
  v457.toNat
def k0_dev32 (d0 : Dev nD) : Nat :=
  let c0_i32_330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_329 : BitVec 32 := 2#32
  let v473 : BitVec 32 := Scalar.muli v2 c2_i32_329
  let v474 : BitVec 32 := Scalar.addi c0_i32_330 v473
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_331 : BitVec 32 := 1#32
  let v475 : BitVec 32 := Scalar.muli v7 c1_i32_331
  let v476 : BitVec 32 := Scalar.addi v474 v475
  v476.toNat
def k0_dev33 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v492 : BitVec 32 := Scalar.muli v2 c2_i32_344
  let v493 : BitVec 32 := Scalar.addi c0_i32_345 v492
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_346 : BitVec 32 := 1#32
  let v494 : BitVec 32 := Scalar.muli v7 c1_i32_346
  let v495 : BitVec 32 := Scalar.addi v493 v494
  v495.toNat
def k0_dev34 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v511 : BitVec 32 := Scalar.muli v2 c2_i32_359
  let v512 : BitVec 32 := Scalar.addi c0_i32_360 v511
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_361 : BitVec 32 := 1#32
  let v513 : BitVec 32 := Scalar.muli v7 c1_i32_361
  let v514 : BitVec 32 := Scalar.addi v512 v513
  v514.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Compact.lean ====
/-
# The kernel body as three loops

The printed body is straight-line code: the sixteen chunks' transfers and waits are unrolled. Here it is restated as
loops over the chunks, each step written once for a chunk `r`, and the two are shown to be the same program.
-/
module

public import proofs.«01_k».proof.Proof.Gen.KernelIdeal
public import proofs.«01_k».proof.Proof.Gen.KernelIdeal.Skeleton
public import Idealize.ShloMosaic.Lib.Pipeline.Launch
public import Idealize.ShloMosaic.Lib.Tactic

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-- The programs of one core. -/
abbrev Code (F : FTy → Type) [FloatOps F] : Type 1 := Prog (TpuEff nD τ sig (Elt F) Λ₀ .tc) PUnit

/-- The two staging buffers: the core's block of `x`, and the whole array it assembles. -/
abbrev xM : Memref sig .tc .vmem S1024x512 .bf16 := Memref.whole cc0_stg0_0
/-- The staged output. -/
abbrev oM : Memref sig .tc .vmem S2048x512 .bf16 := Memref.whole cc0_stg1_0
/-- The staged `x` is a whole buffer, -/
theorem xW : (xM).IsWhole := Memref.isWhole_whole _
/-- and so is the staged output. -/
theorem oW : (oM).IsWhole := Memref.isWhole_whole _

/-- Chunk `r` of an array of sixteen DMA semaphores lies in it. -/
theorem inb16 (r : Fin 16) : ∀ a, (![r.val] : Fin 1 → Nat) a + S1.size a ≤ S16.size a := by revert r; decide

/-- The DMA semaphore of chunk `r`. -/
abbrev semOf (A : DmaSems sig S16) (r : Fin 16) : DmaSem sig :=
  ((A.slice (Rect.unit (s := S16) ![r.val] S1.size (inb16 r))).squeeze S_ squeezes_S1_S_).sem

/-- The rows of chunk `r` of the half device `d` sends to its x-neighbour. -/
abbrev rectS (d : Dev nD) (r : Fin 16) : Rect S2048x512 :=
  Rect.unit (s := S2048x512) (k0_off3 d (BitVec.ofNat 32 (32 * r.val))) S32x512.size (k0_off3_inb d r)
/-- The rows of the output that chunk `r` sent to the x-neighbour is. -/
abbrev rowS (d : Dev nD) (r : Fin 16) : Memref sig .tc .vmem S32x512 .bf16 := oM.slice (rectS d r) (fun _ => rfl)

/-- The rows of chunk `r` of the half device `d` passes on to its y-neighbour. -/
abbrev rectP (d : Dev nD) (r : Fin 16) : Rect S2048x512 :=
  Rect.unit (s := S2048x512) (k0_off6 d (BitVec.ofNat 32 (32 * r.val))) S32x512.size (k0_off6_inb d r)
/-- The rows of the output that chunk `r` passed on to the y-neighbour is. -/
abbrev rowP (d : Dev nD) (r : Fin 16) : Memref sig .tc .vmem S32x512 .bf16 := oM.slice (rectP d r) (fun _ => rfl)

/-- A chunk sent is whole words of the buffer, -/
theorem rowS_words (d : Dev nD) (r : Fin 16) : (rowS d r).view.WordExact := oW.wordExact_slice rfl _ (k0_off3_wordsbf16 d r)
/-- and so is a chunk passed on. -/
theorem rowP_words (d : Dev nD) (r : Fin 16) : (rowP d r).view.WordExact := oW.wordExact_slice rfl _ (k0_off6_wordsbf16 d r)

/-- The neighbours as the kernel computes them. -/
abbrev devX (d : Dev nD) : Dev nD := ⟨k0_dev3 d, k0_dev3_lt d⟩
/-- The neighbour along y. -/
abbrev devY (d : Dev nD) : Dev nD := ⟨k0_dev19 d, k0_dev19_lt d⟩

/-- Start the transfer of chunk `r` of the own half to the x-neighbour. -/
def sendX (d : Dev nD) (r : Fin 16) (k : Code F) : Code F :=
  Prog.op (.enqueueDma (rowS d r) (.remote (Dev.tc (devX d)) (rowS d r) (.dma (semOf cc0_scratch0 r))) (.dma (semOf cc0_scratch1 r))
    (rowS_words d r) (rowS_words d r) ⟨⟨rfl, Or.inl rfl⟩, trivial⟩) fun _ => k

/-- Wait for the landed chunk `r`, then start its transfer on to the y-neighbour. -/
def passY (d : Dev nD) (r : Fin 16) (k : Code F) : Code F :=
  Prog.op (.waitDma2 (semOf cc0_scratch1 r) (rowS d r) (rowS d r) (rowS_words d r) (rowS_words d r)) fun _ =>
  Prog.op (.enqueueDma (rowP d r) (.remote (Dev.tc (devY d)) (rowP d r) (.dma (semOf cc0_scratch2 r))) (.dma (semOf cc0_scratch3 r))
    (rowP_words d r) (rowP_words d r) ⟨⟨rfl, Or.inl rfl⟩, trivial⟩) fun _ => k

/-- Wait for both of the own transfers of chunk `r` and for the chunk the y-neighbour passes on. -/
def drain (d : Dev nD) (r : Fin 16) (k : Code F) : Code F :=
  Prog.op (.waitDma2 (semOf cc0_scratch0 r) (rowS d r) (rowS d r) (rowS_words d r) (rowS_words d r)) fun _ =>
  Prog.op (.waitDma2 (semOf cc0_scratch2 r) (rowP d r) (rowP d r) (rowP_words d r) (rowP_words d r)) fun _ =>
  Prog.op (.waitDma2 (semOf cc0_scratch3 r) (rowP d r) (rowP d r) (rowP_words d r) (rowP_words d r)) fun _ => k

/-- The chunks in the order the kernel takes them. -/
abbrev chunks : List (Fin 16) := [0, 1, 2, 3, 4, 5, 6, 7, 8, 9, 10, 11, 12, 13, 14, 15]

/-- A step done for every chunk of a list. -/
abbrev each (step : Fin 16 → Code F → Code F) (l : List (Fin 16)) (k : Code F) : Code F := l.foldr step k

/-- The half of the output a device's own half block is stored to before the transfers, and the half stored after. -/
abbrev rectSend (d : Dev nD) : Rect S2048x512 := Rect.unit (s := S2048x512) (k0_off2 d) S512x512.size (k0_off2_inb d)
/-- The half stored while the transfers run. -/
abbrev rectKeep (d : Dev nD) : Rect S2048x512 := Rect.unit (s := S2048x512) (k0_off5 d) S512x512.size (k0_off5_inb d)
/-- The same halves in the device's block of `x`. -/
abbrev srcSend (d : Dev nD) : Rect S1024x512 := Rect.unit (s := S1024x512) (k0_off1 d) S512x512.size (k0_off1_inb d)
/-- The half of `x` kept. -/
abbrev srcKeep (d : Dev nD) : Rect S1024x512 := Rect.unit (s := S1024x512) (k0_off4 d) S512x512.size (k0_off4_inb d)

/-- The barrier semaphore. -/
abbrev barS : Sem sig := (SemArray.scalar (sig.barrier 0 rfl) : Sems sig S_).sem

/-- The body after the device id is read. -/
def compact (d : Dev nD) : Code F :=
  Prog.op (.semSignal (Dev.tc (⟨k0_dev1 d, k0_dev1_lt d⟩ : Dev nD)) barS 1) fun _ =>
  Prog.op (.semSignal (Dev.tc (⟨k0_dev2 d, k0_dev2_lt d⟩ : Dev nD)) barS 1) fun _ =>
  Prog.op (.load xM (srcSend d).toLoadRect (View.loadsAt_vmem h_S512x512)) fun v =>
  Prog.op (.load oM (rectSend d).toLoadRect (View.loadsAt_vmem h_S512x512)) fun _ =>
  Prog.op (.store oM (rectSend d) (k0_pay1 v) Finset.univ
    (View.stores_vmem h_S512x512 (oW.storeExact_slice rfl _ (k0_off2_packedbf16 d)) (fun _ => rfl)) (.inl rfl)) fun _ =>
  Prog.op (.semWait barS 2) fun _ =>
  each (sendX d) chunks <|
  Prog.op (.load xM (srcKeep d).toLoadRect (View.loadsAt_vmem h_S512x512)) fun v =>
  Prog.op (.load oM (rectKeep d).toLoadRect (View.loadsAt_vmem h_S512x512)) fun _ =>
  Prog.op (.store oM (rectKeep d) (k0_pay2 v) Finset.univ
    (View.stores_vmem h_S512x512 (oW.storeExact_slice rfl _ (k0_off5_packedbf16 d)) (fun _ => rfl)) (.inl rfl)) fun _ =>
  each (passY d) chunks <|
  each (drain d) chunks <|
  Prog.ret ⟨⟩

set_option maxRecDepth 65536 in
set_option maxHeartbeats 4000000 in
/-- The printed body reads its device id and then runs the loops. -/
theorem body_eq :
    cc0_body (F := F) xM xW oM oW cc0_scratch0 cc0_scratch1 cc0_scratch2 cc0_scratch3 = Prog.op .deviceId fun d => compact d := by
  rfl

end Cert.Gather

end
-- ==== Proof.Geometry.lean ====
/-
# Devices, rows and contents

A device of the 2×2 mesh has an x-neighbour and a y-neighbour. The output's 2048 rows are four halves of 512 rows, and
the half numbered `d` is the one device `d` sends: so each half is named by a device. A half is sixteen bands of 32
rows, the chunks of the transfers. This module names those sets of elements, shows that the kernel's slices are exactly
these, and says what every element of a device's output is to hold.
-/
module

public import proofs.«01_k».proof.Proof.Compact
public import Idealize.ShloMosaic.Lib.Pipeline.Value

@[expose] public section

set_option maxRecDepth 16384

noncomputable section

namespace Cert.Gather

open Cert.KernelIdeal Cert.KernelIdeal.Gen
open Idealize.ShloMosaic
open Idealize.ShloMosaic.TcCoe
open Idealize.SL.Sem

variable {F : FTy → Type} [FloatOps F]

/-! ## Neighbours -/

/-- The x-neighbour of a device. -/
abbrev xn (d : Dev nD) : Dev nD := devX d
/-- The y-neighbour of a device. -/
abbrev yn (d : Dev nD) : Dev nD := devY d

/-- The x-neighbour's x-neighbour is the device itself, -/
theorem xn_xn (d : Dev nD) : xn (xn d) = d := by revert d; decide +kernel
/-- and so along y. -/
theorem yn_yn (d : Dev nD) : yn (yn d) = d := by revert d; decide +kernel
/-- The two swaps commute. -/
theorem xn_yn (d : Dev nD) : xn (yn d) = yn (xn d) := by revert d; decide +kernel
/-- The two neighbours differ, -/
theorem xn_ne_yn (d : Dev nD) : xn d ≠ yn d := by revert d; decide +kernel
/-- and a device is not its own y-neighbour. -/
theorem yn_ne (d : Dev nD) : yn d ≠ d := by revert d; decide +kernel

/-- Swapping along a mesh axis, as a rearrangement of the devices. -/
def swapX : Dev nD ≃ Dev nD := ⟨xn, xn, xn_xn, xn_xn⟩
/-- Swapping along y. -/
def swapY : Dev nD ≃ Dev nD := ⟨yn, yn, yn_yn, yn_yn⟩

/-- A statement about every half is one about the half a device sends, the one it keeps, the one it passes on and the
    one it is passed. -/
theorem halves (d : Dev nD) : (Finset.univ : Finset (Dev nD)) = {d, yn d, xn d, xn (yn d)} := by revert d; decide +kernel
/-- The four halves are four. -/
theorem halves_nodup (d : Dev nD) : [d, yn d, xn d, xn (yn d)].Nodup := by revert d; decide +kernel

/-! ## Rows -/

/-- The elements of half `h`, and of its band `r`. -/
def half (h : Dev nD) : Finset S2048x512.Idx := Finset.univ.filter fun i => (i 0).val / 512 = h.val
/-- Band `r` of half `h`: 32 rows. -/
def band (h : Dev nD) (r : Fin 16) : Finset S2048x512.Idx := Finset.univ.filter fun i => (i 0).val / 32 = 16 * h.val + r.val

/-- An element is in a half by its row, -/
theorem mem_half {h : Dev nD} {i : S2048x512.Idx} : i ∈ half h ↔ (i 0).val / 512 = h.val := by
  unfold half; rw [Finset.mem_filter]; exact and_iff_right (Finset.mem_univ _)
/-- and in a band likewise. -/
theorem mem_band {h : Dev nD} {r : Fin 16} {i : S2048x512.Idx} : i ∈ band h r ↔ (i 0).val / 32 = 16 * h.val + r.val := by
  unfold band; rw [Finset.mem_filter]; exact and_iff_right (Finset.mem_univ _)

/-- There are 2048 rows, -/
theorem row_lt (i : S2048x512.Idx) : (i 0).val < 2048 := (i 0).isLt
/-- and 512 columns. -/
theorem col_lt (i : S2048x512.Idx) : (i 1).val < 512 := (i 1).isLt

/-- A band lies in its half. -/
theorem band_sub (h : Dev nD) (r : Fin 16) : band h r ⊆ half h := fun i hi => by
  rw [mem_band] at hi; rw [mem_half]; have := r.isLt; omega

/-- The whole output is its four halves. -/
theorem univ_eq : (Finset.univ : Finset S2048x512.Idx) = Finset.univ.biUnion half := by
  ext i
  have hi := row_lt i
  simp only [Finset.mem_univ, Finset.mem_biUnion, true_and, true_iff]
  exact ⟨⟨(i 0).val / 512, by show _ < 4; omega⟩, mem_half.mpr rfl⟩
/-- Two halves share no element. -/
theorem half_disjoint {h h' : Dev nD} (hh : h ≠ h') : Disjoint (half h) (half h') :=
  Finset.disjoint_left.mpr fun i h1 h2 => hh (Fin.ext ((mem_half.mp h1).symm.trans (mem_half.mp h2)))

/-- A half is its sixteen bands. -/
theorem half_eq (h : Dev nD) : half h = Finset.univ.biUnion (band h) := by
  ext i
  rw [mem_half]
  simp only [Finset.mem_univ, Finset.mem_biUnion, true_and]
  refine ⟨fun e => ⟨⟨(i 0).val / 32 - 16 * h.val, by omega⟩, mem_band.mpr (by show _ = 16 * h.val + (_ - _); omega)⟩, fun ⟨r, hr⟩ => ?_⟩
  exact mem_half.mp (band_sub h r hr)
/-- Two bands of a half share no element. -/
theorem band_disjoint (h : Dev nD) {r r' : Fin 16} (hr : r ≠ r') : Disjoint (band h r) (band h r') :=
  Finset.disjoint_left.mpr fun i h1 h2 => hr (Fin.ext (by have a := mem_band.mp h1; have b := mem_band.mp h2; omega))

/-- A unit-stride rectangle of all 512 columns, read by its first row. -/
theorem mem_rows {off size : Fin 2 → ℕ} {inb} (i : S2048x512.Idx) (h1 : off 1 = 0) (h2 : size 1 = 512) :
    i ∈ (Rect.unit (s := S2048x512) off size inb).set ↔ off 0 ≤ (i 0).val ∧ (i 0).val < off 0 + size 0 := by
  have hc := col_lt i
  refine Rect.mem_set_unit.trans ?_
  refine (Fin.forall_fin_two (p := fun a : Fin 2 => off a ≤ (i a).val ∧ (i a).val < off a + size a)).trans ?_
  exact ⟨fun h => h.1, fun h => ⟨h, by omega, by omega⟩⟩

/-- The y-neighbour's number, -/
theorem yn_val (d : Dev nD) : (yn d).val = (2 * (d.val / 2) + 1) - d.val % 2 := k0_dev19_eq d
/-- the x-neighbour's, -/
theorem xn_val (d : Dev nD) : (xn d).val = (d.val % 2 + 2) - 2 * (d.val / 2) := k0_dev3_eq d
/-- and the number of devices. -/
theorem dev_lt (d : Dev nD) : d.val < 4 := d.isLt

/-- The first row of the half a device sends. -/
theorem halfrow (d : Dev nD) : 1024 * (d.val / 2) + 512 * (d.val % 2) = 512 * d.val := by omega

/-- The chunks sent are the bands of the device's own half, -/
theorem rowS_set (d : Dev nD) (r : Fin 16) : (rowS d r).view.set = band d r := by
  refine (View.set_slice_whole (cc0_stg1_0 : Ref sig .tc) (rectS d r)).trans ?_
  ext i
  refine (mem_rows i (by rw [k0_off3_eq]; rfl) rfl).trans ?_
  rw [mem_band, k0_off3_eq]
  show (1024 * (d.val / 2) + 512 * (d.val % 2) + 32 * r.val ≤ (i 0).val ∧ (i 0).val < 1024 * (d.val / 2) + 512 * (d.val % 2) + 32 * r.val + 32) ↔ _
  rw [halfrow]; omega

/-- the chunks passed on those of its x-neighbour's. -/
theorem rowP_set (d : Dev nD) (r : Fin 16) : (rowP d r).view.set = band (xn d) r := by
  refine (View.set_slice_whole (cc0_stg1_0 : Ref sig .tc) (rectP d r)).trans ?_
  ext i
  refine (mem_rows i (by rw [k0_off6_eq]; rfl) rfl).trans ?_
  have hd := dev_lt d
  rw [mem_band, k0_off6_eq, xn_val]
  show (512 * (d.val % 2) + 32 * r.val + 1024 - 1024 * (d.val / 2) ≤ (i 0).val
    ∧ (i 0).val < 512 * (d.val % 2) + 32 * r.val + 1024 - 1024 * (d.val / 2) + 32) ↔ _
  omega

/-- The first store covers the device's own half, -/
theorem rectSend_set (d : Dev nD) : (oM.access (rectSend d)).set = half d := by
  refine (View.set_slice_whole (cc0_stg1_0 : Ref sig .tc) (rectSend d)).trans ?_
  ext i
  refine (mem_rows i (by rw [k0_off2_eq]; rfl) rfl).trans ?_
  rw [mem_half, k0_off2_eq]
  show (1024 * (d.val / 2) + 512 * (d.val % 2) ≤ (i 0).val ∧ (i 0).val < 1024 * (d.val / 2) + 512 * (d.val % 2) + 512) ↔ _
  rw [halfrow]; omega

/-- the second its y-neighbour's. -/
theorem rectKeep_set (d : Dev nD) : (oM.access (rectKeep d)).set = half (yn d) := by
  refine (View.set_slice_whole (cc0_stg1_0 : Ref sig .tc) (rectKeep d)).trans ?_
  ext i
  refine (mem_rows i (by rw [k0_off5_eq]; rfl) rfl).trans ?_
  rw [mem_half, k0_off5_eq, yn_val]
  show (1024 * (d.val / 2) + 512 - 512 * (d.val % 2) ≤ (i 0).val ∧ (i 0).val < 1024 * (d.val / 2) + 512 - 512 * (d.val % 2) + 512) ↔ _
  omega

/-! ## Contents -/

/-- Where an element of the output sits within its block of `x`. -/
def within (i : S2048x512.Idx) : S1024x512.Idx :=
  fun a => ⟨(![(i 0).val % 1024, (i 1).val] : Fin 2 → ℕ) a, by
    revert a
    exact Fin.forall_fin_two.mpr ⟨Nat.mod_lt _ (by decide), col_lt i⟩⟩

/-- The half an element is in. -/
def halfOf (i : S2048x512.Idx) : Dev nD := ⟨(i 0).val / 512, by have := row_lt i; show _ < 4; omega⟩

/-- An element of half `h` is in half `h`. -/
theorem halfOf_eq {h : Dev nD} {i : S2048x512.Idx} (hi : i ∈ half h) : halfOf i = h := Fin.ext (mem_half.mp hi)

/-- Whose block of `x` half `h` of device `c`'s output is taken from: its own for the half it keeps (and the half it
    sends), the sender's otherwise. -/
def source (c h : Dev nD) : Dev nD := if h = yn c then c else h

/-- A device's own half is from its own block, -/
theorem source_send (c : Dev nD) : source c c = c := if_neg (yn_ne c).symm
/-- and so is its y-neighbour's. -/
theorem source_keep (c : Dev nD) : source c (yn c) = c := if_pos rfl
/-- What a device sends is what its x-neighbour is to hold, -/
theorem source_sent (c : Dev nD) : source (xn c) c = source c c := by
  rw [source_send]; exact if_neg (by revert c; decide +kernel)
/-- and what it passes on is what its y-neighbour is to hold. -/
theorem source_passed (c : Dev nD) : source (yn c) (xn c) = source c (xn c) := by
  unfold source; rw [if_neg (by revert c; decide +kernel), if_neg (xn_ne_yn c)]

/-- The output assembled from the devices' blocks `X`: what device `c`'s output is to hold. -/
def assemble (X : Dev nD → (cc0_stg0_0 : Ref sig .tc).ty.Contents (Elt F)) (c : Dev nD) : (cc0_stg1_0 : Ref sig .tc).ty.Contents (Elt F) :=
  fun i => X (source c (halfOf i)) (within i)

/-- Two devices that take a half from the same block hold the same in it. -/
theorem assemble_congr (X : Dev nD → (cc0_stg0_0 : Ref sig .tc).ty.Contents (Elt F)) {c c' h : Dev nD} (e : source c h = source c' h)
    {i : S2048x512.Idx} (hi : i ∈ half h) : assemble X c i = assemble X c' i := by
  unfold assemble; rw [halfOf_eq hi, e]

/-- Copying rows from one output to another leaves, on those rows, what was there. -/
theorem write_read_at {sp : Space} {s : Shape} {e : EltTy} (v : View sig .tc sp s e) (f g : v.ty.Contents (Elt F)) {i : v.ty.Idx} (hi : i ∈ v.set) :
    v.write (Elt F) f (v.read (Elt F) g) Finset.univ i = g i := by
  rw [View.write_read_eq_piecewise]
  exact Finset.piecewise_eq_of_mem _ _ _ hi

/-- The first value stored is the value loaded, -/
theorem pay1_eq (v : Vec F S512x512 .bf16) : k0_pay1 v = v := shapeCast_self _ _
/-- and so is the second. -/
theorem pay2_eq (v : Vec F S512x512 .bf16) : k0_pay2 v = v := shapeCast_self _ _

/-- A half block copied from `x` at the rows `o` names to the output at the rows `o'` names is, there, the assembled output,
    where the rows are the same within the block. -/
theorem copy_half (X : Dev nD → (cc0_stg0_0 : Ref sig .tc).ty.Contents (Elt F)) (c h : Dev nD) (o o' : Fin 2 → ℕ) (inb inb')
    (hs : source c h = c) (ho : o 0 = 512 * (h.val % 2)) (ho1 : o 1 = 0) (ho' : o' 0 = 512 * h.val) (ho1' : o' 1 = 0)
    (f : (cc0_stg1_0 : Ref sig .tc).ty.Contents (Elt F)) {i : S2048x512.Idx} (hi : i ∈ half h) :
    (oM.access (Rect.unit (s := S2048x512) o' S512x512.size inb')).write (Elt F) f
        (xM.view.readAt (Elt F) (Rect.unit (s := S1024x512) o S512x512.size inb).toLoadRect (X c)) Finset.univ i
      = assemble X c i := by
  have hset : i ∈ (oM.access (Rect.unit (s := S2048x512) o' S512x512.size inb')).set := by
    refine (Finset.ext_iff.mp (View.set_slice_whole (cc0_stg1_0 : Ref sig .tc) _) i).mpr ?_
    refine (mem_rows i ho1' rfl).mpr ?_
    rw [ho']
    have := mem_half.mp hi
    show 512 * h.val ≤ (i 0).val ∧ (i 0).val < 512 * h.val + 512
    omega
  obtain ⟨j, -, rfl⟩ := Finset.mem_map.mp hset
  refine (View.write_emb_of_mem _ _ (Finset.mem_univ j)).trans ?_
  show X c _ = X (source c (halfOf _)) (within _)
  rw [halfOf_eq hi, hs]
  refine congrArg (X c) (funext fun a => Fin.ext ?_)
  have h0 : (j 0).val < 512 := (j 0).isLt
  revert a
  refine Fin.forall_fin_two.mpr ⟨?_, ?_⟩
  · show o 0 + 1 * (j 0).val = (o' 0 + 1 * (j 0).val) % 1024
    rw [ho, ho']; omega
  · show o 1 + 1 * (j 1).val = o' 1 + 1 * (j 1).val
    rw [ho1, ho1']

end Cert.Gather

end
-- ==== Proof.Protocol.lean ====
/-
# The protocol of the two-hop gather

Every semaphore of the kernel — the barrier, and for each chunk a send and a receive semaphore of either hop — is a
cell that goes through one round. This module names the cells, says what each unit arriving at a cell carries, what
every device owes at launch, and why no wait of the body can block for ever (the levels).
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own copy of the rounds and the gather's. -/
abbrev UG : Type := URounds (GSem nD τ sig) Bool
/-- The ghost state: the pipeline's and the protocol's. -/
abbrev UA : Type := UR sig nD τ × UG

local notation "𝕄" => MT nD τ sig Unit (Elt F) ℕ UA ℕ

/-- Where the pipeline's is in it, -/
abbrev eP : Emb (UR sig nD τ) (MT nD τ sig Unit (Elt F) ℕ UA ℕ) := embL
/-- and where the protocol's is. -/
abbrev eG : Emb UG (MT nD τ sig Unit (Elt F) ℕ UA ℕ) := embR

variable (m : (ℓ : Loc nD τ sig) → Buf (Elt F) ℓ)

/-! ## Cells -/

/-- The four arrays of chunk semaphores: sent to x, landed from x, sent to y, landed from y. -/
abbrev arrOf : Fin 4 → DmaSems sig S16
  | 0 => cc0_scratch0
  | 1 => cc0_scratch1
  | 2 => cc0_scratch2
  | 3 => cc0_scratch3

/-- A semaphore of the kernel: the barrier, or chunk `r` of array `k`. -/
abbrev Slot : Type := Unit ⊕ (Fin 4 × Fin 16)
/-- The barrier. -/
abbrev gate : Slot := .inl ()
/-- Chunk `r` of semaphore array `k`. -/
abbrev slot (k : Fin 4) (r : Fin 16) : Slot := .inr (k, r)

/-- The semaphore a slot stands for, -/
abbrev lane : Slot → SemLoc sig
  | .inl _ => .reg barS
  | .inr (k, r) => .dma (semOf (arrOf k) r)

/-- and that semaphore on device `c`. -/
abbrev cell (c : Dev nD) (s : Slot) : GSem nD τ sig := ((c : Thread nD τ), lane s)

/-- The slot a semaphore is, if it is one of the kernel's own (the first two are the pipeline's). -/
def slotOf : SemLoc sig → Option Slot
  | .reg _ => some gate
  | .dma q => if 2 ≤ q.val then some (slot ⟨(q.val - 2) / 16 % 4, Nat.mod_lt _ (by decide)⟩ ⟨(q.val - 2) % 16, Nat.mod_lt _ (by decide)⟩) else none

/-- Each chunk semaphore is read back as its slot, -/
theorem slotOf_dma : ∀ (k : Fin 4) (r : Fin 16), slotOf (.dma (semOf (arrOf k) r)) = some (slot k r) := by decide

/-- so every slot is recovered from its semaphore: -/
theorem slotOf_lane : ∀ s : Slot, slotOf (lane s) = some s
  | .inl _ => rfl
  | .inr (k, r) => slotOf_dma k r

/-- different slots are different semaphores, -/
theorem lane_inj {s s' : Slot} (h : lane s = lane s') : s = s' :=
  Option.some.inj ((slotOf_lane s).symm.trans ((congrArg slotOf h).trans (slotOf_lane s')))

/-- and on different devices different cells. -/
theorem cell_inj {c c' : Dev nD} {s s' : Slot} (h : cell c s = cell c' s') : c = c' ∧ s = s' :=
  ⟨congrArg (fun g : GSem nD τ sig => g.1.1) h, lane_inj (congrArg Prod.snd h)⟩

/-- What one chunk's transfer adds to a semaphore. -/
abbrev N : ℕ := (rowS 0 0).view.dmaCredit
/-- A chunk credits something. -/
theorem N_pos : 0 < N := View.dmaCredit_pos _ (by decide)

/-- The units one duty of a slot is. -/
def unitsOf : Slot → ℕ
  | .inl _ => 1
  | .inr _ => N

/-! ## Contents -/

/-- Device `c`'s block of `x`, as its staging buffer holds it. -/
def xAt (c : Dev nD) : (cc0_stg0_0 : Ref sig .tc).ty.Contents (Elt F) :=
  (win0_0.blk (0 : Fin 1)).view.read (Elt F) (m ((c : Thread nD τ).loc main_arg0))

/-- What device `c` ends up with: every half from the device that is the source of that half on `c`. -/
def outAt (c : Dev nD) : (cc0_stg1_0 : Ref sig .tc).ty.Contents (Elt F) := assemble (fun d => xAt m d) c

/-- Device `c`'s staged output. -/
abbrev oLoc (c : Dev nD) : Loc nD τ sig := (c : Thread nD τ).loc cc0_stg1_0

/-- Some contents on a set of places of device `n`'s output. -/
def blank (n : Dev nD) (S : Finset S2048x512.Idx) : sProp 𝕄 := iprop(∃ f, oLoc n ↦[S]{fullShare} f)

/-- The final contents on a set of places of device `c`'s output. -/
def done (c : Dev nD) (S : Finset S2048x512.Idx) : sProp 𝕄 := iprop(oLoc c ↦[S]{fullShare} outAt m c)

/-- The half a chunk semaphore of array `k` is about, on the device it is on. -/
def side : Fin 4 → Dev nD → Dev nD
  | 0, c => c
  | 1, c => xn c
  | 2, c => xn c
  | 3, c => xn (yn c)

/-- What a unit brings: the barrier's two hand over the neighbours' landing halves; a chunk semaphore's brings the
    chunk's rows, holding what they hold at the end. -/
def bring (c : Dev nD) : Slot → Bool → sProp 𝕄
  | .inl _, false => blank (xn c) (half c)
  | .inl _, true => blank (yn c) (half (xn c))
  | .inr (k, r), _ => done m c (band (side k c) r)

instance bring_storable (c : Dev nD) (s : Slot) (b : Bool) : BI.Storable (upEmb : UEmb _ 𝕄) (bring m c s b) := by
  rcases s with _ | ⟨k, r⟩
  · cases b
    · show BI.Storable _ (blank _ _); unfold blank; infer_instance
    · show BI.Storable _ (blank _ _); unfold blank; infer_instance
  · show BI.Storable _ (done _ _ _); unfold done; infer_instance

/-! ## The schedule -/

/-- The barrier is paid twice, once by each neighbour; a chunk semaphore once. -/
def payers : Slot → Finset Bool
  | .inl _ => Finset.univ
  | .inr _ => {false}

/-- The schedule: one round on every cell, its duties, their amounts and what they bring. -/
def sched : Rounds.Schedule (GSem nD τ sig) Bool 𝕄 where
  duties g r := if r = 0 ∧ g.1.2 = .tc then ((slotOf g.2).elim ∅ payers) else ∅
  unitless _ := False
  amount g _ _ := (slotOf g.2).elim 1 unitsOf
  payload g _ d := (slotOf g.2).elim iprop(emp) fun s => bring m g.1.1 s d
  amount_pos g _ _ _ := by
    rcases slotOf g.2 with _ | _ | _
    · exact Nat.one_pos
    · exact Nat.one_pos
    · exact N_pos

instance sched_storable (g : GSem nD τ sig) (r : ℕ) (d : Bool) : BI.Storable (upEmb : UEmb _ 𝕄) ((sched m).payload g r d) := by
  show BI.Storable upEmb ((slotOf g.2).elim iprop(emp) fun s => bring m g.1.1 s d)
  rcases slotOf g.2 with _ | s
  · show BI.Storable upEmb iprop(emp); infer_instance
  · exact bring_storable m g.1.1 s d

section Sched

variable (c : Dev nD) (s : Slot)

/-- The duties of a cell in its one round; -/
theorem duties_cell : (sched m).duties (cell c s) 0 = payers s := by
  show (if (0 : ℕ) = 0 ∧ (c : Thread nD τ).2 = .tc then ((slotOf (lane s)).elim ∅ payers) else ∅) = _
  rw [if_pos ⟨rfl, rfl⟩, slotOf_lane]; rfl

/-- there are none in later rounds. -/
theorem duties_after (g : GSem nD τ sig) : ∀ r, 1 ≤ r → (sched m).duties g r = ∅ :=
  fun r hr => if_neg fun h => by omega

/-- What a duty credits, -/
theorem amount_cell (b : Bool) : (sched m).amount (cell c s) 0 b = unitsOf s := by
  show (slotOf (lane s)).elim 1 unitsOf = _
  rw [slotOf_lane]; rfl

/-- what it brings, -/
theorem payload_cell (b : Bool) : (sched m).payload (cell c s) 0 b = bring m c s b := by
  show ((slotOf (lane s)).elim iprop(emp) fun s => bring m c s b) = _
  rw [slotOf_lane]; rfl

/-- and what a wait on the cell takes in all. -/
theorem expect_cell : (sched m).expect (cell c s) 0 = (payers s).card * unitsOf s := by
  unfold Schedule.expect Schedule.amountOf
  rw [duties_cell, Finset.sum_congr rfl fun d _ => amount_cell m c s d, Finset.sum_const, smul_eq_mul]

/-- All that the barrier brings a device: both neighbours' permissions. -/
theorem rest_gate : bigSep ((sched m).duties (cell c gate) 0 \ ∅) (fun d => (sched m).payload (cell c gate) 0 d)
    = iprop(blank (xn c) (half c) ∗ blank (yn c) (half (xn c))) := by
  rw [Finset.sdiff_empty, duties_cell, show payers gate = Finset.univ from rfl,
    bigSep_univ_eq_bigSepL [false, true] (by decide) (by decide), bigSepL_cons_cons, bigSepL_singleton, payload_cell, payload_cell]
  rfl

/-- All that a chunk semaphore brings: its one payload. -/
theorem rest_slot (k : Fin 4) (r : Fin 16) :
    bigSep ((sched m).duties (cell c (slot k r)) 0 \ ∅) (fun d => (sched m).payload (cell c (slot k r)) 0 d)
      = done m c (band (side k c) r) := by
  rw [Finset.sdiff_empty, duties_cell, show payers (slot k r) = {false} from rfl, bigSep_singleton, payload_cell]
  rfl

end Sched

/-! ## Debts -/

/-- The debt of one landing for every chunk of a list, at array `k` of device `n`. -/
def debt (n : Dev nD) (k : Fin 4) : List (Fin 16) → CellTallies nD τ sig Unit
  | [] => 0
  | r :: l => debt n k l + tallyAt (cell n (slot k r)) () N

/-- What remains after both signals: the landings at both neighbours. -/
def debtAll (c : Dev nD) : CellTallies nD τ sig Unit := debt (yn c) 3 chunks + debt (xn c) 1 chunks
/-- What a device owes once it has signalled its x-neighbour. -/
def debt1 (c : Dev nD) : CellTallies nD τ sig Unit := debtAll c + tallyAt (cell (yn c) gate) () 1
/-- What device `c` owes at launch. -/
def debt0 (c : Dev nD) : CellTallies nD τ sig Unit := debt1 c + tallyAt (cell (xn c) gate) () 1

/-! ## Levels -/

/-- The order in which a device waits: the barrier, the landings from x, the landings from y. Nothing is owed on the rest, which is lowest. -/
def rank : Slot → ℕ
  | .inl _ => 1
  | .inr (1, _) => 2
  | .inr (3, _) => 3
  | .inr _ => 0

/-- Every TensorCore cell is in the order, -/
def named (g : GSem nD τ sig) : Finset Unit := if g.1.2 = .tc then {()} else ∅
/-- at the place of its slot. -/
def level (g : GSem nD τ sig) (_ : Unit) : ℕ := (slotOf g.2).elim 0 rank

/-- No other thread's cell is, -/
theorem named_of_ne (g : GSem nD τ sig) (h : g.1.2 ≠ .tc) : named g = ∅ := if_neg h
/-- and each of a TensorCore's is. -/
theorem named_tc (c : Dev nD) (sm : SemLoc sig) : named ((c : Thread nD τ), sm) = {()} := if_pos rfl
/-- The place of a cell is its slot's. -/
theorem level_cell (c : Dev nD) (s : Slot) : level (cell c s) () = rank s := by
  show (slotOf (lane s)).elim 0 rank = _
  rw [slotOf_lane]; rfl

/-- Every debt of `O` is at a cell above level `a`. -/
def Above (a : ℕ) (O : CellTallies nD τ sig Unit) : Prop := ∀ (g : GSem nD τ sig) (u : Unit), 0 < O g u → g.1.2 = .tc ∧ a < level g u

/-- Owing nothing is owing only above any place, -/
theorem above_zero (a : ℕ) : Above a 0 := fun g u h => absurd h (Nat.lt_irrefl 0)

/-- and owing two things above a place is owing their sum there. -/
theorem above_add {a : ℕ} {O O' : CellTallies nD τ sig Unit} (h : Above a O) (h' : Above a O') : Above a (O + O') := fun g u hp => by
  rw [Pi.add_apply, Finsupp.add_apply] at hp
  rcases Nat.eq_zero_or_pos (O g u) with h0 | h0
  · exact h' g u (by omega)
  · exact h g u h0

/-- A debt on one cell is above every place below that cell's. -/
theorem above_cell {a : ℕ} (c : Dev nD) (s : Slot) (n : ℕ) (h : a < rank s) : Above a (tallyAt (cell c s) () n) := fun g u hp => by
  rw [tallyAt_apply] at hp
  by_cases e : g = cell c s ∧ u = ()
  · rw [e.1]; exact ⟨rfl, by rw [level_cell]; exact h⟩
  · rw [if_neg e] at hp; exact absurd hp (Nat.lt_irrefl 0)

/-- So is the debt of a list of chunks, -/
theorem above_debt {a : ℕ} (n : Dev nD) (k : Fin 4) (h : ∀ r, a < rank (slot k r)) : ∀ l, Above a (debt n k l)
  | [] => above_zero a
  | r :: l => above_add (above_debt n k h l) (above_cell n (slot k r) N (h r))

/-- and so are all the transfers, above the barrier's. -/
theorem above_debtAll (c : Dev nD) : Above 1 (debtAll c) :=
  above_add (above_debt _ _ (fun _ => show 1 < 3 by decide) _) (above_debt _ _ (fun _ => show 1 < 2 by decide) _)

/-- Above a place is above every lower one. -/
theorem Above.weaken {a b : ℕ} {O : CellTallies nD τ sig Unit} (h : Above b O) (hab : a ≤ b) : Above a O :=
  fun g u hp => ⟨(h g u hp).1, Nat.lt_of_le_of_lt hab (h g u hp).2⟩

/-- Whatever a device owes at the start is above the lowest place. -/
theorem above_debt0 (c : Dev nD) : Above 0 (debt0 c) :=
  above_add (above_add ((above_debtAll c).weaken (by decide)) (above_cell _ _ _ (by decide))) (above_cell _ _ _ (by decide))

/-- A wait at a cell of level at most `a` is allowed while every debt is above `a`. -/
theorem may_wait {a : ℕ} (c : Dev nD) (sm : SemLoc sig) (O : CellTallies nD τ sig Unit)
    (hs : level ((c : Thread nD τ), sm) () ≤ a) (hO : Above a O) :
    (levAts named level : sProp 𝕄) ⊢ MayWait (c : Thread nD τ) sm () O :=
  MayOwe.of_cut (L := named) (lev := level) a
    (fun p hp => by rw [Finset.mem_singleton.mp hp, named_tc]; exact Finset.mem_singleton_self _)
    (fun g u hg => by unfold named; rw [if_pos (hO g u hg).1]; exact Finset.mem_singleton_self _)
    (fun p hp => by rw [Finset.mem_singleton.mp hp]; exact hs)
    (fun g u hg => (hO g u hg).2)

end Cert.Gather
-- ==== Proof.Steps.lean ====
/-
# One step of each kind, and a loop of them

What a wait on a chunk semaphore and a chunk's transfer do to the protocol's state, each proved once, and the rule by
which a step proved for one chunk is proved for all sixteen in turn.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (K : Dev nD × Slot → ℕ)

/-- The kernel calls no function that recurs. -/
abbrev 𝒱₀ : Variants := Variants.none

/-- The rest of a core's program `k` runs to `Q`. -/
abbrev runs (c : Dev nD) (k : Code F) (Q : PUnit → sProp 𝕄) : sProp 𝕄 :=
  wp frame (wpE (defs₀ (F := F)) 𝒱₀ (c : Thread nD τ) none) Set.univ k Q

/-- What every device knows for good: each cell of each device is under its invariant, and at its one round. -/
def records : sProp 𝕄 :=
  iprop((bigSep Finset.univ fun p : Dev nD × Slot => cellInv eG (sched m) (K p) (cell p.1 p.2))
    ∗ bigSep Finset.univ fun p : Dev nD × Slot => reached eG (cell p.1 p.2) 0)

instance records_persistent : BI.Persistent (records m K) := by unfold records; infer_instance

/-- The records hold every cell's invariant, -/
theorem records_inv (c : Dev nD) (s : Slot) : records m K ⊢ cellInv eG (sched m) (K (c, s)) (cell c s) := by
  have e : (bigSep Finset.univ fun p : Dev nD × Slot => (cellInv eG (sched m) (K p) (cell p.1 p.2) : sProp 𝕄)) ⊢ cellInv eG (sched m) (K (c, s)) (cell c s) :=
    bigSep_elim (Finset.mem_univ (c, s))
  unfold records
  iintro ⟨H, -⟩
  iapply e; iexact H

/-- and that every cell has reached its round. -/
theorem records_reached (c : Dev nD) (s : Slot) : records m K ⊢ reached eG (cell c s) 0 := by
  have e : (bigSep Finset.univ fun p : Dev nD × Slot => (reached eG (cell p.1 p.2) 0 : sProp 𝕄)) ⊢ reached eG (cell c s) 0 :=
    bigSep_elim (Finset.mem_univ (c, s))
  unfold records
  iintro ⟨-, H⟩
  iapply e; iexact H

/-- Device `c` owes `O`, whatever it has waited on so far. -/
def owing (c : Dev nD) (O : CellTallies nD τ sig Unit) : sProp 𝕄 := iprop(∃ W, owes (c : Thread nD τ) O W)

/-! ## Steps -/

/-- A wait for a chunk: the chunk's rows come, at their final contents, and the semaphore is done with, at zero. -/
theorem wait_step (c : Dev nD) (k : Fin 4) (r : Fin 16) {a : ℕ} (O : CellTallies nD τ sig Unit)
    (hr : rank (slot k r) ≤ a) (hO : Above a O) {s d : Memref sig .tc .vmem S32x512 .bf16} {hs : s.view.WordExact} {hd : d.view.WordExact}
    (hN : d.view.dmaCredit = N) {rest : Code F} {Q : PUnit → sProp 𝕄} :
    iprop(records m K ∗ levAts named level ∗ owing c O ∗ cred (tallyAt (cell c (slot k r)) () N) ∗ atPos eG (cell c (slot k r)) 0 ∅ 0)
      ⊢ iprop(((owing c O ∗ done m c (band (side k c) r) ∗ semVal (cell c (slot k r)) 0) -∗ runs c rest Q)
        -∗ runs c (Prog.op (.waitDma2 (semOf (arrOf k) r) s d hs hd) fun _ => rest) Q) := by
  unfold owing
  iintro ⟨#HR, #Hlev, ⟨%W, HO⟩, Hc, Hat⟩ Hk
  ihave #HI := (records_inv m K c (slot k r)) $$ HR
  iapply (Rounds.wp_wait_rest_token 𝒱₀ eG (sched m) (c : Thread nD τ) none (κ := K (c, slot k r))
      (wpE_waitDma2_eq 𝒱₀ (c : Thread nD τ) none Set.univ) (Set.mem_univ _) () (O := O) (W := W) (R := 0) (m := 0) (T := ∅)
      (by rw [expect_cell m c (slot k r), hN, Nat.zero_add]; exact (Nat.one_mul N).symm)) $$ [Hc HO Hat]
  · isplitr; · iexact HI
    isplitl [Hc]; · rw [hN]; iexact Hc
    isplitl [HO]; · iexact HO
    isplitr
    · iapply (may_wait c _ O (le_of_eq_of_le (level_cell c (slot k r)) hr) hO); iexact Hlev
    iexact Hat
  iintro ⟨HO, Hat, -, Hpay⟩
  ihave Hp := (Entails.of_eq (rest_slot m c k r)) $$ Hpay
  imod (Rounds.cell_close eG (sched m) (Set.mem_univ (K (c, slot k r))) (fun h => h) (R := 0 + 1) (duties_after m (cell c (slot k r)))) $$ [Hat] with Hz
  · isplitr; · iexact HI
    iexact Hat
  iapply Hk
  isplitl [HO]; · iexists _; iexact HO
  isplitl [Hp] <;> iassumption

/-- Rows `o` of the output staging buffer. -/
abbrev rows (o : Fin 2 → ℕ) (inb : ∀ a, o a + S32x512.size a ≤ S2048x512.size a) : Memref sig .tc .vmem S32x512 .bf16 :=
  oM.slice (Rect.unit (s := S2048x512) o S32x512.size inb) (fun _ => rfl)

/-- A chunk's transfer from `c` to `n`, of a half both take from the same device: the rows on `c` are lent to the send
    semaphore, the rows on `n` given over to the receive semaphore, and a landing's debt is paid. -/
theorem send_step (c n h : Dev nD) (kS kR : Fin 4) (r : Fin 16) (o : Fin 2 → ℕ) (inb : ∀ a, o a + S32x512.size a ≤ S2048x512.size a)
    (hset : (rows o inb).view.set = band h r) (hS : side kS c = h) (hR : side kR n = h) (hsame : source n h = source c h)
    (O : CellTallies nD τ sig Unit) {hw : (rows o inb).view.WordExact} {hw' : (rows o inb).view.WordExact} {hsc : (rows o inb).view.ref.isScScratch = false}
    {ht : DmaTarget.Typed .vmem (.dma (semOf (arrOf kR) r)) (.remote (Dev.tc n : Thread nD τ) (rows o inb) (.dma (semOf (arrOf kS) r)) hsc)}
    {rest : Code F} {Q : PUnit → sProp 𝕄} :
    iprop(records m K ∗ owing c (O + tallyAt (cell n (slot kR r)) () N) ∗ done m c (band h r) ∗ blank n (band h r)
        ∗ dutyTok eG (cell c (slot kS r)) 0 false ∗ dutyTok eG (cell n (slot kR r)) 0 false)
      ⊢ iprop(((owing c O ∗ cred (tallyAt (cell c (slot kS r)) () N)) -∗ runs c rest Q)
        -∗ runs c (Prog.op (.enqueueDma (rows o inb) (.remote (Dev.tc n : Thread nD τ) (rows o inb) (.dma (semOf (arrOf kS) r)) hsc)
            (.dma (semOf (arrOf kR) r)) hw hw' ht) fun _ => rest) Q) := by
  unfold owing done blank
  iintro ⟨#HR, ⟨%W, HO⟩, Hsrc, ⟨%f, Hdst⟩, HtS, HtR⟩ Hk
  iapply (Rounds.wp_send_pointsTo 𝒱₀ eG (sched m) (c : Thread nD τ) none (c' := (Dev.tc n : Thread nD τ)) (κ₁ := K (c, slot kS r)) (κ₂ := K (n, slot kR r))
    (sS := .dma (semOf (arrOf kS) r)) (sem := .dma (semOf (arrOf kR) r)) (src := rows o inb) (dst := rows o inb)
    (q := fullShare) (fs := outAt m c) (fd := f) (r₁ := 0) (r₂ := 0) (d₁ := false) (d₂ := false)
    (by rw [duties_cell m c (slot kS r)]; exact Finset.mem_singleton_self _) (by rw [duties_cell m n (slot kR r)]; exact Finset.mem_singleton_self _)
    () () N rfl (amount_cell m c (slot kS r) false) (amount_cell m n (slot kR r) false) O rfl (W := W)
    (by rw [payload_cell m c (slot kS r), hset]; show _ ⊢ done m c (band (side kS c) r); rw [hS]; exact BI.Entails.refl _)
    (by
      rw [payload_cell m n (slot kR r)]; show _ ⊢ done m n (band (side kR n) r); rw [hR]
      refine Entails.of_eq ?_
      rw [hset]
      refine pointsTo_congr fun i hi => ?_
      refine (write_read_at (rows o inb).view f (outAt m c) (by rw [hset]; exact hi)).trans ?_
      exact (assemble_congr _ hsame (band_sub h r hi)).symm)) $$ [Hsrc Hdst HO HtS HtR]
  · isplitr; · iapply (records_inv m K c (slot kS r)); iexact HR
    isplitr; · iapply (records_inv m K n (slot kR r)); iexact HR
    isplitl [Hsrc]; · rw [hset]; iexact Hsrc
    isplitl [Hdst]; · rw [hset]; iexact Hdst
    isplitl [HO]; · iexact HO
    isplitl [HtS]; · iexact HtS
    isplitr; · iapply (records_reached m K c (slot kS r)); iexact HR
    isplitl [HtR]; · iexact HtR
    iapply (records_reached m K n (slot kR r)); iexact HR
  iintro ⟨Hc, HO⟩
  iapply Hk
  isplitl [HO]; · iexists W; iexact HO
  iexact Hc

/-! ## Loops -/

/-- One `Φ r` for every chunk of a list, in order. -/
def star (Φ : Fin 16 → sProp 𝕄) : List (Fin 16) → sProp 𝕄
  | [] => iprop(emp)
  | r :: l => iprop(Φ r ∗ star Φ l)

/-- Over a list without repetitions that is the conjunction over its set. -/
theorem star_eq (Φ : Fin 16 → sProp 𝕄) : ∀ l : List (Fin 16), l.Nodup → bigSep l.toFinset Φ = star Φ l
  | [], _ => by rw [List.toFinset_nil, bigSep_empty]; rfl
  | r :: l, h => by
    rw [List.toFinset_cons, bigSep_insert (fun hr => (List.nodup_cons.mp h).1 (List.mem_toFinset.mp hr)), star_eq Φ l (List.nodup_cons.mp h).2]
    rfl

/-- Over all chunks is over the list of them in the kernel's order. -/
theorem star_chunks (Φ : Fin 16 → sProp 𝕄) : bigSep Finset.univ Φ = star Φ chunks := by
  rw [← star_eq Φ chunks (by decide)]; exact congrArg (fun s => bigSep s Φ) (by decide)

/-- A step that turns `A (r :: l)` and `In r` into `A l` and `Out r` for any chunk, run over a list. -/
theorem loop_list (c : Dev nD) (step : Fin 16 → Code F → Code F) (A : List (Fin 16) → sProp 𝕄) (In Out : Fin 16 → sProp 𝕄) (Q : PUnit → sProp 𝕄)
    (h : ∀ r l k, iprop(A (r :: l) ∗ In r) ⊢ iprop(((A l ∗ Out r) -∗ runs c k Q) -∗ runs c (step r k) Q)) :
    ∀ l k, iprop(A l ∗ star In l) ⊢ iprop(((A [] ∗ star Out l) -∗ runs c k Q) -∗ runs c (each step l k) Q)
  | [], k => by
    unfold star
    iintro H Hk
    iapply Hk; iexact H
  | r :: l, k => by
    rw [show star In (r :: l) = iprop(In r ∗ star In l) from rfl, show star Out (r :: l) = iprop(Out r ∗ star Out l) from rfl]
    iintro ⟨HA, Hr, Hl⟩ Hk
    iapply (h r l (each step l k)) $$ [HA Hr]
    · isplitl [HA] <;> iassumption
    iintro ⟨HA, Ho⟩
    iapply (loop_list c step A In Out Q h l k) $$ [HA Hl]
    · isplitl [HA] <;> iassumption
    iintro ⟨HA, Hl⟩
    iapply Hk
    isplitl [HA]; · iexact HA
    isplitl [Ho] <;> iassumption

/-- The same over all sixteen chunks. -/
theorem loop (c : Dev nD) (step : Fin 16 → Code F → Code F) (A : List (Fin 16) → sProp 𝕄) (In Out : Fin 16 → sProp 𝕄) (Q : PUnit → sProp 𝕄)
    (h : ∀ r l k, iprop(A (r :: l) ∗ In r) ⊢ iprop(((A l ∗ Out r) -∗ runs c k Q) -∗ runs c (step r k) Q)) (k : Code F) :
    iprop(A chunks ∗ bigSep Finset.univ In) ⊢ iprop(((A [] ∗ bigSep Finset.univ Out) -∗ runs c k Q) -∗ runs c (each step chunks k) Q) := by
  rw [star_chunks, star_chunks]; exact loop_list c step A In Out Q h chunks k

/-- All chunks of the own half are sent. -/
theorem send_loop (c : Dev nD) (k : Code F) (Q : PUnit → sProp 𝕄) :
    iprop((records m K ∗ owing c (debtAll c))
        ∗ bigSep Finset.univ fun r => iprop(done m c (band c r) ∗ blank (xn c) (band c r)
          ∗ dutyTok eG (cell c (slot 0 r)) 0 false ∗ dutyTok eG (cell (xn c) (slot 1 r)) 0 false))
      ⊢ iprop((((records m K ∗ owing c (debt (yn c) 3 chunks + debt (xn c) 1 [])) ∗ bigSep Finset.univ fun r => cred (tallyAt (cell c (slot 0 r)) () N)) -∗ runs c k Q)
        -∗ runs c (each (sendX c) chunks k) Q) :=
  loop c (sendX c) (fun l => iprop(records m K ∗ owing c (debt (yn c) 3 chunks + debt (xn c) 1 l))) _ _ Q (fun r l k => by
    rw [show debt (xn c) 1 (r :: l) = debt (xn c) 1 l + tallyAt (cell (xn c) (slot 1 r)) () N from rfl, ← add_assoc]
    unfold sendX
    iintro ⟨⟨#HR, HO⟩, H⟩ Hk
    iapply (send_step m K c (xn c) c 0 1 r (k0_off3 c (BitVec.ofNat 32 (32 * r.val))) (k0_off3_inb c r) (rowS_set c r) rfl (xn_xn c) (source_sent c)
      (debt (yn c) 3 chunks + debt (xn c) 1 l) (hw := rowS_words c r) (hw' := rowS_words c r) (ht := ⟨⟨rfl, Or.inl rfl⟩, trivial⟩)) $$ [HO H]
    · isplitr; · iexact HR
      isplitl [HO] <;> iassumption
    iintro ⟨HO, Hc⟩
    iapply Hk
    isplitl [HO]
    · isplitr; · iexact HR
      iexact HO
    iexact Hc) k

/-- All chunks that land from the x-neighbour are passed on. -/
theorem pass_loop (c : Dev nD) (k : Code F) (Q : PUnit → sProp 𝕄) :
    iprop((records m K ∗ levAts named level ∗ owing c (debt (yn c) 3 chunks))
        ∗ bigSep Finset.univ fun r => iprop((cred (tallyAt (cell c (slot 1 r)) () N) ∗ atPos eG (cell c (slot 1 r)) 0 ∅ 0) ∗ blank (yn c) (band (xn c) r)
          ∗ dutyTok eG (cell c (slot 2 r)) 0 false ∗ dutyTok eG (cell (yn c) (slot 3 r)) 0 false))
      ⊢ iprop((((records m K ∗ levAts named level ∗ owing c 0)
            ∗ bigSep Finset.univ fun r => iprop(semVal (cell c (slot 1 r)) 0 ∗ cred (tallyAt (cell c (slot 2 r)) () N))) -∗ runs c k Q)
        -∗ runs c (each (passY c) chunks k) Q) :=
  loop c (passY c) (fun l => iprop(records m K ∗ levAts named level ∗ owing c (debt (yn c) 3 l))) _ _ Q (fun r l k => by
    unfold passY
    iintro ⟨⟨#HR, #Hlev, HO⟩, Hin, Hb, Ht⟩ Hk
    iapply (wait_step m K c 1 r (a := 2) (s := rowS c r) (d := rowS c r) (hs := rowS_words c r) (hd := rowS_words c r) (debt (yn c) 3 (r :: l)) (le_refl 2) (above_debt _ _ (fun _ => show 2 < 3 by decide) _) rfl) $$ [HO Hin]
    · isplitr; · iexact HR
      isplitr; · iexact Hlev
      isplitl [HO] <;> iassumption
    iintro ⟨HO, Hd, Hz⟩
    iapply (send_step m K c (yn c) (xn c) 2 3 r (k0_off6 c (BitVec.ofNat 32 (32 * r.val))) (k0_off6_inb c r) (rowP_set c r) rfl (congrArg xn (yn_yn c)) (source_passed c) (debt (yn c) 3 l) (hw := rowP_words c r) (hw' := rowP_words c r) (ht := ⟨⟨rfl, Or.inl rfl⟩, trivial⟩)) $$ [HO Hd Hb Ht]
    · isplitr; · iexact HR
      isplitl [HO]; · iexact HO
      isplitl [Hd]; · iexact Hd
      isplitl [Hb] <;> iassumption
    iintro ⟨HO, Hc⟩
    iapply Hk
    isplitl [HO]
    · isplitr; · iexact HR
      isplitr; · iexact Hlev
      iexact HO
    isplitl [Hz] <;> iassumption) k

/-- What `drain` needs of one chunk semaphore, and what it leaves. -/
def pend (k : Fin 4) (c : Dev nD) (r : Fin 16) : sProp 𝕄 :=
  iprop(cred (tallyAt (cell c (slot k r)) () N) ∗ atPos eG (cell c (slot k r)) 0 ∅ 0)
/-- What is left of a chunk semaphore after its wait. -/
def spent (k : Fin 4) (c : Dev nD) (r : Fin 16) : sProp 𝕄 :=
  iprop(done m c (band (side k c) r) ∗ semVal (cell c (slot k r)) 0)

/-- All own transfers have left and all passed-on chunks have landed. -/
theorem drain_loop (c : Dev nD) (k : Code F) (Q : PUnit → sProp 𝕄) :
    iprop((records m K ∗ levAts named level ∗ owing c 0) ∗ bigSep Finset.univ fun r => iprop(pend 0 c r ∗ pend 2 c r ∗ pend 3 c r))
      ⊢ iprop((((records m K ∗ levAts named level ∗ owing c 0) ∗ bigSep Finset.univ fun r => iprop(spent m 0 c r ∗ spent m 2 c r ∗ spent m 3 c r)) -∗ runs c k Q)
        -∗ runs c (each (drain c) chunks k) Q) :=
  loop c (drain c) (fun _ => iprop(records m K ∗ levAts named level ∗ owing c 0)) _ _ Q (fun r l k => by
    unfold drain pend spent
    iintro ⟨⟨#HR, #Hlev, HO⟩, H0, H2, H3⟩ Hk
    iapply (wait_step m K c 0 r (a := 3) (s := rowS c r) (d := rowS c r) (hs := rowS_words c r) (hd := rowS_words c r) 0 (show 0 ≤ 3 by decide) (above_zero _) rfl) $$ [HO H0]
    · isplitr; · iexact HR
      isplitr; · iexact Hlev
      isplitl [HO] <;> iassumption
    iintro ⟨HO, H0⟩
    iapply (wait_step m K c 2 r (a := 3) (s := rowP c r) (d := rowP c r) (hs := rowP_words c r) (hd := rowP_words c r) 0 (show 0 ≤ 3 by decide) (above_zero _) rfl) $$ [HO H2]
    · isplitr; · iexact HR
      isplitr; · iexact Hlev
      isplitl [HO] <;> iassumption
    iintro ⟨HO, H2⟩
    iapply (wait_step m K c 3 r (a := 3) (s := rowP c r) (d := rowP c r) (hs := rowP_words c r) (hd := rowP_words c r) 0 (le_refl 3) (above_zero _) rfl) $$ [HO H3]
    · isplitr; · iexact HR
      isplitr; · iexact Hlev
      isplitl [HO] <;> iassumption
    iintro ⟨HO, H3⟩
    iapply Hk
    isplitl [HO]
    · isplitr; · iexact HR
      isplitr; · iexact Hlev
      iexact HO
    isplitl [H0]; · iexact H0
    isplitl [H2] <;> iassumption) k

end Cert.Gather
-- ==== Proof.Body.lean ====
/-
# The body

What a device starts with and ends with, the output buffer cut into halves and bands and put together again, and the
body's run: both signals, the own half stored, the barrier, the three loops, with the kept half stored in between.
-/
module

public import proofs.«01_k».proof.Proof.Steps
public import proofs.«01_k».proof.Proof.Gen.KernelIdeal.Points

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-! ## The output, cut up -/

/-- A buffer of the output's shape is its four halves, named from device `c`. -/
theorem cut_halves (n c : Dev nD) (f : Buf (Elt F) (oLoc n)) :
    (oLoc n ↦{fullShare} f : sProp 𝕄) = iprop((oLoc n ↦[half c]{fullShare} f) ∗ (oLoc n ↦[half (yn c)]{fullShare} f)
      ∗ (oLoc n ↦[half (xn c)]{fullShare} f) ∗ (oLoc n ↦[half (xn (yn c))]{fullShare} f)) := by
  refine (congrArg (fun S : Finset S2048x512.Idx => (oLoc n ↦[S]{fullShare} f : sProp 𝕄)) univ_eq).trans ?_
  refine (pointsTo_biUnion (ℓ := oLoc n) Finset.univ half fun a _ b _ hab => half_disjoint hab).trans ?_
  rw [bigSep_univ_eq_bigSepL [c, yn c, xn c, xn (yn c)] (by rw [halves c]; ext; simp) (halves_nodup c)]
  rfl

/-- The final contents are those of its four halves. -/
theorem cut_done (n c : Dev nD) : (oLoc n ↦{fullShare} outAt m n : sProp 𝕄)
    = iprop(done m n (half c) ∗ done m n (half (yn c)) ∗ done m n (half (xn c)) ∗ done m n (half (xn (yn c)))) := by
  unfold done; exact cut_halves n c (outAt m n)

/-- A half at the final contents is its sixteen bands at them. -/
theorem done_bands (n h : Dev nD) : done m n (half h) = bigSep Finset.univ fun r => done m n (band h r) := by
  unfold done
  rw [half_eq]
  exact pointsTo_biUnion (ℓ := oLoc n) Finset.univ (band h) fun a _ b _ hab => band_disjoint h hab

/-- Places held at some contents are held at any contents. -/
theorem blank_intro (n : Dev nD) (S : Finset S2048x512.Idx) (f : Buf (Elt F) (oLoc n)) : (oLoc n ↦[S]{fullShare} f : sProp 𝕄) ⊢ blank n S := by
  unfold blank
  iintro H; iexists f; iexact H

/-- A half at any contents gives its sixteen bands. -/
theorem blank_bands (n h : Dev nD) : (blank n (half h) : sProp 𝕄) ⊢ bigSep Finset.univ fun r => blank n (band h r) := by
  have e (f : Buf (Elt F) (oLoc n)) : (oLoc n ↦[half h]{fullShare} f : sProp 𝕄) ⊢ bigSep Finset.univ fun r => blank n (band h r) := by
    rw [half_eq, pointsTo_biUnion (ℓ := oLoc n) Finset.univ (band h) fun a _ b _ hab => band_disjoint h hab]
    exact bigSep_mono fun r _ => blank_intro n (band h r) f
  rw [show (blank n (half h) : sProp 𝕄) = iprop(∃ f, oLoc n ↦[half h]{fullShare} f) from rfl]
  iintro ⟨%f, H⟩
  iapply (e f); iexact H

/-- The half stored before the barrier is the own half's final contents, -/
theorem stored_send (c : Dev nD) (f : Buf (Elt F) (oLoc c)) :
    (oLoc c ↦[half c]{fullShare} (oM.access (rectSend c)).write (Elt F) f
        (k0_pay1 (xM.view.readAt (Elt F) (srcSend c).toLoadRect (xAt m c))) Finset.univ : sProp 𝕄) = done m c (half c) := by
  unfold done
  refine pointsTo_congr fun i hi => ?_
  rw [pay1_eq]
  exact copy_half (fun d => xAt m d) c c (k0_off1 c) (k0_off2 c) (k0_off1_inb c) (k0_off2_inb c) (source_send c) (by rw [k0_off1_eq]; rfl)
    (by rw [k0_off1_eq]; rfl) (by rw [k0_off2_eq]; exact halfrow c) (by rw [k0_off2_eq]; rfl) f hi

/-- and the half stored after the first loop the kept half's. -/
theorem stored_keep (c : Dev nD) (f : Buf (Elt F) (oLoc c)) :
    (oLoc c ↦[half (yn c)]{fullShare} (oM.access (rectKeep c)).write (Elt F) f
        (k0_pay2 (xM.view.readAt (Elt F) (srcKeep c).toLoadRect (xAt m c))) Finset.univ : sProp 𝕄) = done m c (half (yn c)) := by
  have hc := dev_lt c
  unfold done
  refine pointsTo_congr fun i hi => ?_
  rw [pay2_eq]
  refine copy_half (fun d => xAt m d) c (yn c) (k0_off4 c) (k0_off5 c) (k0_off4_inb c) (k0_off5_inb c) (source_keep c) ?_
    (by rw [k0_off4_eq]; rfl) ?_ (by rw [k0_off5_eq]; rfl) f hi
  · rw [k0_off4_eq, yn_val]
    show 512 - 512 * (c.val % 2) = _
    omega
  · rw [k0_off5_eq, yn_val]
    show 1024 * (c.val / 2) + 512 - 512 * (c.val % 2) = _
    omega

/-! ## What the body starts and ends with -/

/-- The positions at the own cells' one round. -/
def places (c : Dev nD) : sProp 𝕄 :=
  iprop(atPos eG (cell c gate) 0 ∅ 0 ∗ bigSep Finset.univ fun k : Fin 4 => bigSep Finset.univ fun r : Fin 16 => atPos eG (cell c (slot k r)) 0 ∅ 0)

/-- The duties device `c` pays: a barrier unit to each neighbour, and both ends of its transfers. -/
def dues (c : Dev nD) : sProp 𝕄 :=
  iprop(dutyTok eG (cell (xn c) gate) 0 false ∗ dutyTok eG (cell (yn c) gate) 0 true
    ∗ (bigSep Finset.univ fun r : Fin 16 => dutyTok eG (cell c (slot 0 r)) 0 false)
    ∗ (bigSep Finset.univ fun r : Fin 16 => dutyTok eG (cell (xn c) (slot 1 r)) 0 false)
    ∗ (bigSep Finset.univ fun r : Fin 16 => dutyTok eG (cell c (slot 2 r)) 0 false)
    ∗ (bigSep Finset.univ fun r : Fin 16 => dutyTok eG (cell (yn c) (slot 3 r)) 0 false))

/-- The credit for what it waits for: two barrier units and every landing. -/
def claims (c : Dev nD) : sProp 𝕄 :=
  iprop(cred (tallyAt (cell c gate) () 2) ∗ (bigSep Finset.univ fun r : Fin 16 => cred (tallyAt (cell c (slot 1 r)) () N))
    ∗ (bigSep Finset.univ fun r : Fin 16 => cred (tallyAt (cell c (slot 3 r)) () N)))

/-- The gather's ghost state at the start, under some names of the invariants. -/
def ghost (c : Dev nD) : sProp 𝕄 := iprop(∃ K, records m K ∗ places c ∗ dues c)

/-- What a device begins the body with: its part of the protocol, the credit for what the others owe it, and the order of the cells. -/
def start (c : Dev nD) : sProp 𝕄 := iprop(ghost m c ∗ claims c ∗ levAts named level)

/-- At the end every semaphore is at zero. -/
def closed (c : Dev nD) : sProp 𝕄 :=
  iprop(semVal (cell c gate) 0 ∗ bigSep Finset.univ fun k : Fin 4 => bigSep Finset.univ fun r : Fin 16 => semVal (cell c (slot k r)) 0)

/-- A conjunction over the four arrays, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The pipeline's data: the arrays at launch, the block fetched and the array written back, the states above, the debts. -/
def dats (_ : Fin 1) (c : Dev nD) : Dat τ (Elt F) Unit ℕ UA ℕ cfg0 c where
  A w := m ((cfg0.win w).arr.view.loc (c : Thread nD τ))
  after w _ := match w with
    | ⟨0, _⟩ => xAt m c
    | ⟨1, _⟩ => outAt m c
  Φ t := match t with
    | ⟨0, _⟩ => start m c
    | ⟨_ + 1, _⟩ => closed c
  q _ := fullShare
  owed t := match t with
    | ⟨0, _⟩ => debt0 c
    | ⟨_ + 1, _⟩ => 0

/-- A staging buffer held at contents `X`. -/
abbrev at_ (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Holding a whole buffer is holding every element of it, at the same contents. -/
theorem owns_at (c : Dev nD) (b : Ref sig .tc) (X : b.ty.Contents (Elt F)) :
    (owns (Ix := Unit) (Name := ℕ) (U := UA) (Lvl := ℕ) (c : Thread nD τ) (Memref.whole b) fullShare X : sProp 𝕄) = at_ c b X := by
  unfold owns; simp only [Memref.view_whole, View.read_whole, View.set_whole]

/-! ## The run -/

/-- The barrier: two units, each with the half of a neighbour's output this device is to fill. -/
theorem barrier_step (K : Dev nD × Slot → ℕ) (c : Dev nD) {rest : Code F} {Q : PUnit → sProp 𝕄} :
    iprop(records m K ∗ levAts named level ∗ owing c (debtAll c) ∗ cred (tallyAt (cell c gate) () 2) ∗ atPos eG (cell c gate) 0 ∅ 0)
      ⊢ iprop(((owing c (debtAll c) ∗ blank (xn c) (half c) ∗ blank (yn c) (half (xn c)) ∗ semVal (cell c gate) 0) -∗ runs c rest Q)
        -∗ runs c (Prog.op (.semWait barS 2) fun _ => rest) Q) := by
  unfold owing
  iintro ⟨#HR, #Hlev, ⟨%W, HO⟩, Hc, Hat⟩ Hk
  ihave #HI := (records_inv m K c gate) $$ HR
  iapply (Rounds.wp_wait_rest_token 𝒱₀ eG (sched m) (c : Thread nD τ) none (κ := K (c, gate))
      (wpE_semWait_eq 𝒱₀ (c : Thread nD τ) none Set.univ) (Set.mem_univ _) () (O := debtAll c) (W := W) (R := 0) (m := 0) (T := ∅)
      (by rw [expect_cell m c gate]; decide)) $$ [Hc HO Hat]
  · isplitr; · iexact HI
    isplitl [Hc]; · iexact Hc
    isplitl [HO]; · iexact HO
    isplitr
    · iapply (may_wait c _ (debtAll c) (le_of_eq (level_cell c gate)) (above_debtAll c)); iexact Hlev
    iexact Hat
  iintro ⟨HO, Hat, -, Hpay⟩
  ihave Hp := (Entails.of_eq (rest_gate m c)) $$ Hpay
  icases Hp with ⟨Hx, Hy⟩
  imod (Rounds.cell_close eG (sched m) (Set.mem_univ (K (c, gate))) (fun h => h) (R := 0 + 1) (duties_after m (cell c gate))) $$ [Hat] with Hz
  · isplitr; · iexact HI
    iexact Hat
  iapply Hk
  isplitl [HO]; · iexists _; iexact HO
  isplitl [Hx]; · iexact Hx
  isplitl [Hy] <;> iassumption

/-- A signal to a neighbour's barrier, with the half that neighbour is to fill. -/
theorem signal_step (K : Dev nD × Slot → ℕ) (c n : Dev nD) (b : Bool) (S : Finset S2048x512.Idx) (hb : (bring m n gate b : sProp 𝕄) = blank c S)
    (O : CellTallies nD τ sig Unit) {rest : Code F} {Q : PUnit → sProp 𝕄} :
    iprop(records m K ∗ owing c (O + tallyAt (cell n gate) () 1) ∗ dutyTok eG (cell n gate) 0 b ∗ blank c S)
      ⊢ iprop((owing c O -∗ runs c rest Q) -∗ runs c (Prog.op (.semSignal (Dev.tc n : Thread nD τ) barS 1) fun _ => rest) Q) := by
  unfold owing
  iintro ⟨#HR, ⟨%W, HO⟩, Ht, Hb⟩ Hk
  iapply (Rounds.wp_signal 𝒱₀ eG (sched m) (c : Thread nD τ) none (dst := (n : Thread nD τ)) (κ := K (n, gate)) (r := 0) (d := b) (k' := 1)
      (by rw [duties_cell m n gate]; exact Finset.mem_univ _) (amount_cell m n gate b) () O rfl (W := W)) $$ [HO Ht Hb]
  · isplitr; · iapply (records_inv m K n gate); iexact HR
    isplitl [HO]; · iexact HO
    isplitl [Ht]; · iexact Ht
    isplitl [Hb]; · rw [payload_cell m n gate, hb]; iexact Hb
    iapply (records_reached m K n gate); iexact HR
  iintro HO
  iapply Hk; iexists W; iexact HO

/-- What the body is run from, the invariants' names fixed. -/
def bodyPre (K : Dev nD × Slot → ℕ) (c : Dev nD) : sProp 𝕄 :=
  iprop((records m K ∗ places c ∗ dues c) ∗ (claims c ∗ levAts named level) ∗ owing c (debt0 c)
    ∗ (((c : Thread nD τ).loc cc0_stg0_0) ↦{fullShare} xAt m c) ∗ ∃ f, oLoc c ↦{fullShare} f)

/-- What the body leaves. -/
def bodyPost (c : Dev nD) : sProp 𝕄 :=
  iprop(closed c ∗ owing c 0 ∗ (((c : Thread nD τ).loc cc0_stg0_0) ↦{fullShare} xAt m c) ∗ oLoc c ↦{fullShare} outAt m c)

set_option maxHeartbeats 1600000 in
/-- The body takes the start state to the end state, with the output at its final contents. -/
theorem compact_runs (K : Dev nD × Slot → ℕ) (c : Dev nD) (Q : PUnit → sProp 𝕄) :
    iprop(bodyPre m K c ∗ (bodyPost m c -∗ Q ⟨⟩)) ⊢ runs c (compact c) Q := by
  unfold bodyPre places dues claims compact
  rw [four]
  iintro ⟨⟨⟨#HR, ⟨HaG, Ha0, Ha1, Ha2, Ha3⟩, HtX, HtY, Ht0, Ht1, Ht2, Ht3⟩, ⟨⟨HcG, Hc1, Hc3⟩, #Hlev⟩, HO, Hx, ⟨%f, Hout⟩⟩, Hk⟩
  ihave Hq := (Entails.of_eq (cut_halves c c f)) $$ Hout
  icases Hq with ⟨Hown, Hkeep, Hbx, Hby⟩
  -- the two signals, each with the half of the own output the neighbour fills
  unfold debt0
  iapply (signal_step m K c (xn c) false (half (xn c)) (by show blank (xn (xn c)) (half (xn c)) = _; rw [xn_xn]) (debt1 c)) $$ [HO HtX Hbx]
  · isplitr; · iexact HR
    isplitl [HO]; · iexact HO
    isplitl [HtX]; · iexact HtX
    unfold blank; iexists f; iexact Hbx
  iintro HO
  unfold debt1
  iapply (signal_step m K c (yn c) true (half (xn (yn c))) (by show blank (yn (yn c)) (half (xn (yn c))) = _; rw [yn_yn]) (debtAll c)) $$ [HO HtY Hby]
  · isplitr; · iexact HR
    isplitl [HO]; · iexact HO
    isplitl [HtY]; · iexact HtY
    unfold blank; iexists f; iexact Hby
  iintro HO
  -- the own half stored
  iapply (wp_load 𝒱₀ (c : Thread nD τ) none Set.univ (m := xM) (Finset.subset_univ _)) $$ Hx; iintro Hx
  iapply (wp_load_rect 𝒱₀ (c : Thread nD τ) none Set.univ (m := oM) (r := rectSend c) (S := half c) (by rw [rectSend_set])) $$ Hown; iintro Hown
  iapply (wp_store 𝒱₀ (c : Thread nD τ) none Set.univ (m := oM) (r := rectSend c) (Mk := Finset.univ) (S := half c)
    (by rw [View.setOn_univ, rectSend_set])) $$ Hown; iintro Hown
  ihave Hown := (Entails.of_eq ((stored_send m c f).trans (done_bands m c c))) $$ Hown
  -- the barrier
  iapply (barrier_step m K c) $$ [HO HcG HaG]
  · isplitr; · iexact HR
    isplitr; · iexact Hlev
    isplitl [HO]; · iexact HO
    isplitl [HcG] <;> iassumption
  iintro ⟨HO, Hlx, Hly, HzG⟩
  ihave Hlx := (blank_bands (xn c) c) $$ Hlx
  ihave Hly := (blank_bands (yn c) (xn c)) $$ Hly
  -- the own half sent
  iapply (send_loop m K c) $$ [HO Hown Hlx Ht0 Ht1]
  · isplitl [HO]
    · isplitr; · iexact HR
      iexact HO
    simp only [bigSep_sep']
    isplitl [Hown]; · iexact Hown
    isplitl [Hlx]; · iexact Hlx
    isplitl [Ht0] <;> iassumption
  rw [show debt (yn c) 3 chunks + debt (xn c) 1 [] = debt (yn c) 3 chunks from add_zero _]
  iintro ⟨⟨-, HO⟩, Hc0⟩
  -- the kept half stored
  iapply (wp_load 𝒱₀ (c : Thread nD τ) none Set.univ (m := xM) (Finset.subset_univ _)) $$ Hx; iintro Hx
  iapply (wp_load_rect 𝒱₀ (c : Thread nD τ) none Set.univ (m := oM) (r := rectKeep c) (S := half (yn c)) (by rw [rectKeep_set])) $$ Hkeep; iintro Hkeep
  iapply (wp_store 𝒱₀ (c : Thread nD τ) none Set.univ (m := oM) (r := rectKeep c) (Mk := Finset.univ) (S := half (yn c))
    (by rw [View.setOn_univ, rectKeep_set])) $$ Hkeep; iintro Hkeep
  ihave Hkeep := (Entails.of_eq (stored_keep m c f)) $$ Hkeep
  -- what lands passed on
  iapply (pass_loop m K c) $$ [HO Hc1 Ha1 Hly Ht2 Ht3]
  · isplitl [HO]
    · isplitr; · iexact HR
      isplitr; · iexact Hlev
      iexact HO
    simp only [bigSep_sep']
    isplitl [Hc1 Ha1]; · isplitl [Hc1] <;> iassumption
    isplitl [Hly]; · iexact Hly
    isplitl [Ht2] <;> iassumption
  simp only [bigSep_sep']
  iintro ⟨⟨-, -, HO⟩, Hz1, Hc2⟩
  -- everything drained
  iapply (drain_loop m K c) $$ [HO Hc0 Ha0 Hc2 Ha2 Hc3 Ha3]
  · isplitl [HO]
    · isplitr; · iexact HR
      isplitr; · iexact Hlev
      iexact HO
    unfold pend
    simp only [bigSep_sep']
    isplitl [Hc0 Ha0]; · isplitl [Hc0] <;> iassumption
    isplitl [Hc2 Ha2]; · isplitl [Hc2] <;> iassumption
    isplitl [Hc3] <;> iassumption
  unfold spent
  simp only [bigSep_sep']
  iintro ⟨⟨-, -, HO⟩, ⟨Hb0, Hz0⟩, ⟨Hb2, Hz2⟩, ⟨Hb3, Hz3⟩⟩
  unfold runs
  rw [wp_ret]; imodintro
  iapply Hk
  unfold bodyPost closed
  rw [four, cut_done m c c]
  isplitl [HzG Hz0 Hz1 Hz2 Hz3]
  · isplitl [HzG]; · iexact HzG
    isplitl [Hz0]; · iexact Hz0
    isplitl [Hz1]; · iexact Hz1
    isplitl [Hz2] <;> iassumption
  isplitl [HO]; · iexact HO
  isplitl [Hx]; · iexact Hx
  isplitl [Hb0]; · iapply (Entails.of_eq (done_bands m c c).symm); iexact Hb0
  isplitl [Hkeep]; · iexact Hkeep
  isplitl [Hb2]; · iapply (Entails.of_eq (done_bands m c (xn c)).symm); iexact Hb2
  iapply (Entails.of_eq (done_bands m c (xn (yn c))).symm); iexact Hb3

/-- The state of the pipeline's one point before the body and after it. -/
def pointPre (c : Dev nD) : sProp 𝕄 :=
  iprop(start m c ∗ (dats m 0 c).owesAt () t0_0.castSucc
    ∗ (∃ d, at_ c cc0_stg0_0 ((dats m 0 c).before (0 : Fin 2) t0_0 d))
    ∗ (∃ d, at_ c cc0_stg1_0 ((dats m 0 c).before (1 : Fin 2) t0_0 d)))
/-- The same, as the pipeline asks for it at its one point. -/
def pointPost (c : Dev nD) : sProp 𝕄 :=
  iprop(closed c ∗ (dats m 0 c).owesAt () t0_0.succ ∗ at_ c cc0_stg0_0 (xAt m c) ∗ at_ c cc0_stg1_0 (outAt m c))

set_option maxRecDepth 8000 in
/-- The library's obligation on the body, met. -/
theorem body_obligation (c : Dev nD) : BodyObligation (dats (F := F) m 0 c) (defs₀ (F := F)) 𝒱₀ () Set.univ := fun t => by
  rw [fin_N0 t]
  rw [bigSep_W0, bigSep_W0]
  simp only [owns_at]
  show pointPre m c ⊢ wp frame (wpE (defs₀ (F := F)) 𝒱₀ c none) Set.univ
    (cc0_body (F := F) xM xW oM oW cc0_scratch0 cc0_scratch1 cc0_scratch2 cc0_scratch3) (fun _ => pointPost m c)
  rw [body_eq, wp_deviceId]
  unfold pointPre start ghost Dat.owesAt Pipeline.owesWithin
  iintro ⟨⟨⟨%K, Hg⟩, Hrest⟩, ⟨%W, %hW, HO⟩, ⟨%d0, %g0, %hg0, Hx⟩, ⟨%d1, %g1, %hg1, Hout⟩⟩
  have hx : g0 = xAt m c := by rw [hg0]; unfold Dat.before; rw [if_pos (fetch0_0 t0_0)]; rfl
  subst hx
  rw [show (dats m 0 c).owed t0_0.castSucc = debt0 c from rfl]
  iapply (compact_runs m K c fun _ => pointPost m c)
  unfold bodyPre bodyPost
  isplitr []
  · isplitl [Hg]; · iexact Hg
    isplitl [Hrest]; · iexact Hrest
    isplitl [HO]; · unfold owing; iexists W; iexact HO
    isplitl [Hx]; · iexact Hx
    iexists g1; iexact Hout
  unfold owing pointPost Dat.owesAt Pipeline.owesWithin
  rw [show (dats m 0 c).owed t0_0.succ = 0 from rfl]
  iintro ⟨Hz, ⟨%W', HO⟩, Hx, Hout⟩
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.Gather
-- ==== Proof.Run.lean ====
/-
# The launch

The four devices' shares of the protocol dealt out — every cell's invariant allocated for all devices at once, each
duty's token handed to the device that pays it —, the credit for what the devices owe one another, and the run of the
whole program from any memory.
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-- A conjunction over the slots: the barrier's, and the four arrays'. -/
theorem over_slots (Φ : Slot → sProp 𝕄) :
    bigSep Finset.univ Φ = iprop(Φ gate ∗ bigSep Finset.univ fun k : Fin 4 => bigSep Finset.univ fun r : Fin 16 => Φ (slot k r)) := by
  rw [bigSep_univ_sum, bigSep_univ_of_subsingleton (), bigSep_univ_prod]; rfl

/-! ## The semaphores at the launch -/

/-- The kernel's own scoped semaphores. -/
abbrev own : Fin 4 × Fin 16 → SemLoc sig := fun p => .dma (semOf (arrOf p.1) p.2)

/-- The chunk semaphores live for the call only, -/
theorem own_scoped : ∀ p : Fin 4 × Fin 16, (own p).isScoped .tc = true := by decide
/-- none of them is one of the pipeline's, -/
theorem own_apart : ∀ (p : Fin 4 × Fin 16) (w : Fin cfg0.W) (s : Fin (cfg0.spec w).nbuf), own p ≠ .dma ((cfg0.spec w).sem s) := by decide

/-- which is all the launch asks of a call's own semaphores. -/
theorem ownSemFacts : Pipeline.OwnSemFacts cfg0.spec own where
  isScoped := own_scoped
  inj p q h := Sum.inr_injective (lane_inj (s := .inr p) (s' := .inr q) h)
  disj := own_apart

/-- All of a device's semaphores at zero are its own ones and the barrier. -/
theorem zeros_eq (c : Dev nD) :
    (iprop(Pipeline.ownSems0 (Ix := Unit) (Name := ℕ) (U := UA) (Lvl := ℕ) (Val := Elt F) (τ := τ) own c ∗ unscopedSems0 c) : sProp 𝕄)
      = bigSep Finset.univ fun s : Slot => semVal (cell c s) 0 := by
  rw [bigSep_univ_sum, bigSep_univ_of_subsingleton (), show (unscopedSems0 c : sProp 𝕄) = semVal (cell c gate) 0 from by
    unfold unscopedSems0; rw [bigSep_eq_bigSepL_of_eq [SemLoc.reg barS] (by decide) (by decide)]; rfl]
  exact Idealize.SL.BI.sep_comm.antisymm Idealize.SL.BI.sep_comm

/-! ## The ghost state at the launch -/

/-- A device and a slot make one cell. -/
theorem cells_inj : Function.Injective fun p : Dev nD × Slot => cell p.1 p.2 :=
  fun p q h => Prod.ext (cell_inj h).1 (cell_inj h).2
/-- Every cell of the protocol. -/
def allCells : Finset (GSem nD τ sig) := Finset.univ.map ⟨fun p : Dev nD × Slot => cell p.1 p.2, cells_inj⟩

/-- A device's duties: which slot's, and by whom paid. -/
abbrev Duty : Type := Bool ⊕ (Fin 4 × Fin 16)
/-- Where a duty is to be paid. -/
abbrev dutyAt (p : Dev nD × Duty) : GSem nD τ sig × ℕ × Bool :=
  match p.2 with
  | .inl b => (cell p.1 gate, 0, b)
  | .inr kr => (cell p.1 (.inr kr), 0, false)

/-- Different duties are different entries of the schedule. -/
theorem duties_inj : Function.Injective dutyAt := by
  rintro ⟨c, b | kr⟩ ⟨c', b' | kr'⟩ h
  · have hc := (cell_inj (congrArg Prod.fst h)).1
    have hb : b = b' := congrArg (fun x : GSem nD τ sig × ℕ × Bool => x.2.2) h
    subst hc; subst hb; rfl
  · exact absurd (cell_inj (s := gate) (s' := .inr kr') (congrArg Prod.fst h)).2 Sum.inl_ne_inr
  · exact absurd (cell_inj (s := .inr kr) (s' := gate) (congrArg Prod.fst h)).2 Sum.inr_ne_inl
  · have hk := cell_inj (s := .inr kr) (s' := .inr kr') (congrArg Prod.fst h)
    have hc := hk.1
    have hs : kr = kr' := Sum.inr_injective hk.2
    subst hc; subst hs; rfl
/-- Every duty of the protocol. -/
def allDuties : Finset (GSem nD τ sig × ℕ × Bool) := Finset.univ.map ⟨dutyAt, duties_inj⟩

/-- The launch's ghost element: the pipeline's, and the gather's. -/
def u₀ : UA := (initOf (Pipeline.cells cfgs cellOf_inj) (Pipeline.launchToks cfgs cellOf_inj), initOf allCells allDuties)

/-- The tokens of the duties at device `c`'s own cells. -/
def minted (c : Dev nD) : sProp 𝕄 :=
  iprop((dutyTok eG (cell c gate) 0 false ∗ dutyTok eG (cell c gate) 0 true)
    ∗ (bigSep Finset.univ fun r : Fin 16 => dutyTok eG (cell c (slot 0 r)) 0 false)
    ∗ (bigSep Finset.univ fun r : Fin 16 => dutyTok eG (cell c (slot 1 r)) 0 false)
    ∗ (bigSep Finset.univ fun r : Fin 16 => dutyTok eG (cell c (slot 2 r)) 0 false)
    ∗ (bigSep Finset.univ fun r : Fin 16 => dutyTok eG (cell c (slot 3 r)) 0 false))

/-- What the launch deals device `c`. -/
def dealt (c : Dev nD) : sProp 𝕄 :=
  iprop((bigSep Finset.univ fun s : Slot => roundState eG (sched m) (cell c s) 0)
    ∗ (bigSep Finset.univ fun s : Slot => atPos eG (cell c s) 0 ∅ 0) ∗ (bigSep Finset.univ fun s : Slot => reached eG (cell c s) 0) ∗ minted c)

/-- What is over all cells is over the devices' slots, -/
theorem over_cells (Φ : GSem nD τ sig → sProp 𝕄) : bigSep allCells Φ = bigSep Finset.univ fun c : Dev nD => bigSep Finset.univ fun s : Slot => Φ (cell c s) := by
  unfold allCells; rw [bigSep_map, bigSep_univ_prod]; rfl

/-- and what is over all duties is over the devices' duties. -/
theorem over_duties :
    bigSep allDuties (fun x => (dutyTok eG x.1 x.2.1 x.2.2 : sProp 𝕄)) = bigSep Finset.univ fun c : Dev nD => minted c := by
  unfold allDuties; rw [bigSep_map, bigSep_univ_prod]
  refine bigSep_congr fun c _ => ?_
  rw [bigSep_univ_sum, bigSep_univ_prod, four, bigSep_univ_eq_bigSepL [false, true] (by decide) (by decide)]
  rfl

/-- The protocol's initial ghost state is dealt out to the devices. -/
theorem deal : BI.own (eG (initOf allCells allDuties)) ⊢ (|==> bigSep Finset.univ (dealt m) : sProp 𝕄) := by
  iintro HX
  imod (Rounds.fund eG (sched m) allCells allDuties) $$ HX with ⟨Hst, Hr, Hat, Htok⟩
  imodintro
  ihave Hst := (Entails.of_eq (over_cells fun g => roundState eG (sched m) g 0)) $$ Hst
  ihave Hat := (Entails.of_eq (over_cells fun g => (atPos eG g 0 ∅ 0 : sProp 𝕄))) $$ Hat
  ihave Hr := (Entails.of_eq (over_cells fun g => (reached eG g 0 : sProp 𝕄))) $$ Hr
  ihave Htok := (Entails.of_eq (over_duties (F := F))) $$ Htok
  unfold dealt; simp only [bigSep_sep']
  isplitl [Hst]; · iexact Hst
  isplitl [Hat]; · iexact Hat
  isplitl [Hr] <;> iassumption

/-- One device's cells come under their invariants, each at some name. -/
theorem enter (c : Dev nD) :
    iprop(Pipeline.ownSems0 (Ix := Unit) (Name := ℕ) (U := UA) (Lvl := ℕ) (Val := Elt F) (τ := τ) own c ∗ unscopedSems0 c ∗ dealt m c)
      ⊢ |={Set.univ}=> iprop((bigSep Finset.univ fun s : Slot => iprop(∃ κ : ℕ, cellInv eG (sched m) κ (cell c s)))
          ∗ (bigSep Finset.univ fun s : Slot => reached eG (cell c s) 0) ∗ places c ∗ minted c) := by
  have hin : iprop((bigSep Finset.univ fun s : Slot => semVal (cell c s) 0) ∗ bigSep Finset.univ fun s : Slot => roundState eG (sched m) (cell c s) 0)
      ⊢ (|={Set.univ}=> bigSep Finset.univ fun s : Slot => iprop(∃ κ : ℕ, cellInv eG (sched m) κ (cell c s)) : sProp 𝕄) := by
    rw [← bigSep_sep']
    exact (bigSep_mono fun s _ => (Rounds.body_intro eG (sched m) (cell c s)).trans inv_alloc).trans (bigSep_fupd _ _)
  unfold dealt places
  rw [over_slots fun s => atPos eG (cell c s) 0 ∅ 0]
  iintro ⟨Hos, Hus, Hst, Hat, Hr, Htok⟩
  ihave Hv := (Entails.of_eq (zeros_eq (F := F) c)) $$ [Hos Hus]
  · isplitl [Hos] <;> iassumption
  imod hin $$ [Hv Hst] with Hinv
  · isplitl [Hv] <;> iassumption
  imodintro
  isplitl [Hinv]; · iexact Hinv
  isplitl [Hr]; · iexact Hr
  isplitl [Hat] <;> iassumption

/-- The tokens handed to the payers: along x for the first array's landings and one barrier unit, along y for the
    second's and the other unit. -/
theorem hand_over : (bigSep Finset.univ fun c : Dev nD => (minted c : sProp 𝕄)) ⊢ bigSep Finset.univ fun c : Dev nD => dues c := by
  unfold minted dues
  simp only [bigSep_sep']
  rw [bigSep_univ_equiv swapX (fun c : Dev nD => (dutyTok eG (cell c gate) 0 false : sProp 𝕄)),
    bigSep_univ_equiv swapY (fun c : Dev nD => (dutyTok eG (cell c gate) 0 true : sProp 𝕄)),
    bigSep_univ_equiv swapX (fun c : Dev nD => (bigSep Finset.univ fun r : Fin 16 => dutyTok eG (cell c (slot 1 r)) 0 false : sProp 𝕄)),
    bigSep_univ_equiv swapY (fun c : Dev nD => (bigSep Finset.univ fun r : Fin 16 => dutyTok eG (cell c (slot 3 r)) 0 false : sProp 𝕄))]
  iintro ⟨⟨HX, HY⟩, H0, H1, H2, H3⟩
  isplitl [HX]; · iexact HX
  isplitl [HY]; · iexact HY
  isplitl [H0]; · iexact H0
  isplitl [H1]; · iexact H1
  isplitl [H2]; · iexact H2
  iexact H3

/-- The global step: every device's cells under invariants all devices know, every token with its payer. -/
theorem share_out :
    (bigSep Finset.univ fun c : Dev nD => iprop((bigSep Finset.univ fun s : Slot => iprop(∃ κ : ℕ, cellInv eG (sched m) κ (cell c s)))
          ∗ (bigSep Finset.univ fun s : Slot => reached eG (cell c s) 0) ∗ places c ∗ minted c) : sProp 𝕄)
      ⊢ bigSep Finset.univ (ghost m) := by
  rw [bigSep_sep', bigSep_sep', bigSep_sep', ← bigSep_univ_prod (fun p : Dev nD × Slot => iprop(∃ κ : ℕ, cellInv eG (sched m) κ (cell p.1 p.2))),
    ← bigSep_univ_prod (fun p : Dev nD × Slot => (reached eG (cell p.1 p.2) 0 : sProp 𝕄))]
  iintro ⟨HI, #HR, Hpl, Htok⟩
  ihave HK := (BI.bigSep_exists_pi Finset.univ (fun (p : Dev nD × Slot) (κ : ℕ) => (cellInv eG (sched m) κ (cell p.1 p.2) : sProp 𝕄))) $$ HI
  icases HK with ⟨%K, #HI⟩
  ihave Htk := (hand_over (F := F)) $$ Htok
  have hdev (c : Dev nD) : iprop(records m K ∗ places c ∗ dues c) ⊢ ghost m c := by
    unfold ghost
    iintro H; iexists K; iexact H
  iapply (BI.bigSep_with_persistent (R := records m K) (Φ := fun c : Dev nD => iprop(places c ∗ dues c)) fun c _ => hdev c)
  isplitr
  · unfold records; isplitl; · iexact HI
    iexact HR
  · rw [bigSep_sep']
    isplitl [Hpl] <;> iassumption

/-- All semaphores at zero and all dealt shares become, at once, every device's part of the protocol with every cell's invariant allocated. -/
theorem set_up : (bigSep Finset.univ fun c => iprop(Pipeline.ownSems0 (Ix := Unit) (Name := ℕ) (U := UA) (Lvl := ℕ) (Val := Elt F) (τ := τ) own c ∗ unscopedSems0 c ∗ dealt m c) : sProp 𝕄)
    ⊢ |={Set.univ}=> bigSep Finset.univ (ghost m) :=
  ((bigSep_mono fun c _ => enter m c).trans (bigSep_fupd _ _)).trans (BI.fupd_mono (share_out m))

/-! ## The credit -/

/-- How much of a debt of single landings at array `k` falls on slot `s`. -/
def landings (k : Fin 4) (s : Slot) : List (Fin 16) → ℕ
  | [] => 0
  | r :: l => landings k s l + if slot k r = s then N else 0

/-- A debt on one cell counts on that cell alone. -/
theorem tally_cell (n c : Dev nD) (s' s : Slot) (a : ℕ) : (tallyAt (cell n s') () a : CellTallies nD τ sig Unit) (cell c s) () = if n = c then (if s' = s then a else 0) else 0 := by
  rw [tallyAt_apply]
  by_cases hn : n = c
  · subst hn
    rw [if_pos rfl]
    by_cases hs : s' = s
    · subst hs; rw [if_pos rfl, if_pos ⟨rfl, rfl⟩]
    · rw [if_neg hs, if_neg fun h => hs (cell_inj h.1).2.symm]
  · rw [if_neg hn, if_neg fun h => hn (cell_inj h.1).1.symm]

/-- The debt of a list of chunks counts on the chunks in the list. -/
theorem debt_cell (n c : Dev nD) (k : Fin 4) (s : Slot) : ∀ l, debt n k l (cell c s) () = if n = c then landings k s l else 0
  | [] => by rw [show debt n k [] = 0 from rfl]; by_cases hn : n = c <;> simp [hn, landings]
  | r :: l => by
    rw [show debt n k (r :: l) = debt n k l + tallyAt (cell n (slot k r)) () N from rfl, Pi.add_apply, Finsupp.add_apply, debt_cell n c k s l, tally_cell]
    by_cases hn : n = c
    · rw [if_pos hn, if_pos hn, if_pos hn]; rfl
    · rw [if_neg hn, if_neg hn, if_neg hn]

/-- What all devices together owe a slot of device `c`. -/
def total (s : Slot) : ℕ := landings 3 s chunks + landings 1 s chunks + (if gate = s then 1 else 0) + (if gate = s then 1 else 0)

/-- What all devices together owe a cell is what its owner will wait for: -/
theorem owed_total (c : Dev nD) (s : Slot) : ∑ d : Dev nD, debt0 d (cell c s) () = total s := by
  have h (d : Dev nD) : debt0 d (cell c s) () = (if swapY d = c then landings 3 s chunks else 0) + (if swapX d = c then landings 1 s chunks else 0)
      + (if swapY d = c then (if gate = s then 1 else 0) else 0) + (if swapX d = c then (if gate = s then 1 else 0) else 0) := by
    unfold debt0 debt1 debtAll
    rw [Pi.add_apply, Finsupp.add_apply, Pi.add_apply, Finsupp.add_apply, Pi.add_apply, Finsupp.add_apply, debt_cell, debt_cell, tally_cell, tally_cell]
    rfl
  rw [Finset.sum_congr rfl fun d _ => h d, Finset.sum_add_distrib, Finset.sum_add_distrib, Finset.sum_add_distrib,
    Equiv.sum_comp swapY (fun d => if d = c then landings 3 s chunks else 0), Equiv.sum_comp swapX (fun d => if d = c then landings 1 s chunks else 0),
    Equiv.sum_comp swapY (fun d => if d = c then (if gate = s then 1 else 0) else 0), Equiv.sum_comp swapX (fun d => if d = c then (if gate = s then 1 else 0) else 0)]
  simp only [Finset.sum_ite_eq', Finset.mem_univ, if_true]
  rfl

/-- Landings are counted once for a slot the list names. -/
theorem landings_count (k : Fin 4) (s : Slot) : ∀ l, landings k s l = (l.countP fun r => decide (slot k r = s)) * N
  | [] => by rw [List.countP_nil, Nat.zero_mul]; rfl
  | r :: l => by
    rw [show landings k s (r :: l) = landings k s l + if slot k r = s then N else 0 from rfl, landings_count k s l, List.countP_cons]
    by_cases h : slot k r = s
    · rw [if_pos h, if_pos (decide_eq_true h), Nat.add_mul, Nat.one_mul]
    · rw [if_neg h, if_neg (by simpa using h), Nat.add_zero, Nat.add_zero]

/-- two units on the barrier, -/
theorem total_gate : total gate = 2 := by
  unfold total; rw [landings_count, landings_count]
  rw [show (chunks.countP fun r => decide (slot 3 r = gate)) = 0 from by decide, show (chunks.countP fun r => decide (slot 1 r = gate)) = 0 from by decide,
    Nat.zero_mul, if_pos rfl]
/-- a chunk on each semaphore of the transfers from x, -/
theorem total_x (r : Fin 16) : total (slot 1 r) = N := by
  unfold total; rw [landings_count, landings_count]
  rw [show (chunks.countP fun r' => decide (slot 3 r' = slot 1 r)) = 0 from by revert r; decide, show (chunks.countP fun r' => decide (slot 1 r' = slot 1 r)) = 1 from by revert r; decide,
    Nat.zero_mul, Nat.one_mul, if_neg Sum.inl_ne_inr, Nat.zero_add, Nat.add_zero]
/-- and on each of those from y. -/
theorem total_y (r : Fin 16) : total (slot 3 r) = N := by
  unfold total; rw [landings_count, landings_count]
  rw [show (chunks.countP fun r' => decide (slot 3 r' = slot 3 r)) = 1 from by revert r; decide, show (chunks.countP fun r' => decide (slot 1 r' = slot 3 r)) = 0 from by revert r; decide,
    Nat.zero_mul, Nat.one_mul, if_neg Sum.inl_ne_inr, Nat.add_zero]

/-- Different slots are different semaphores, as a function. -/
theorem lane_inj' : Function.Injective lane := fun s s' h => lane_inj h

/-- Each slot of device `c` is credited with what is owed it. -/
theorem credit_slots (c : Dev nD) :
    (Pipeline.launchCred debt0 c : sProp 𝕄) ⊢ bigSep Finset.univ fun s : Slot => cred (tallyAt (cell c s) () (total s)) := by
  have hs (s : Slot) : tallyOn (cell c s) (launchCredit (Pipeline.owing debt0) 0 (cell c s)) = (tallyAt (cell c s) () (total s) : CellTallies nD τ sig Unit) := by
    unfold tallyAt; refine congrArg _ (Finsupp.ext fun u => ?_); cases u
    rw [Pipeline.launchCredit_owing, Finsupp.single_eq_same, owed_total]
  unfold Pipeline.launchCred
  rw [bigSep_congr (s := Finset.univ) fun (s : Slot) _ => congrArg cred (hs s).symm]
  exact (bigSep_subset (Finset.subset_univ (Finset.univ.map ⟨lane, lane_inj'⟩))).trans (Entails.of_eq (bigSep_map _))

/-- The credit of the launch covers the waits of each device on what others pay. -/
theorem credit (c : Dev nD) : (Pipeline.launchCred debt0 c : sProp 𝕄) ⊢ claims c := by
  refine (credit_slots c).trans ?_
  rw [over_slots, four, total_gate, bigSep_congr (s := Finset.univ) (Φ := fun r : Fin 16 => cred (tallyAt (cell c (slot 1 r)) () (total (slot 1 r)))) (fun (r : Fin 16) _ => by rw [total_x r]),
    bigSep_congr (s := Finset.univ) (Φ := fun r : Fin 16 => cred (tallyAt (cell c (slot 3 r)) () (total (slot 3 r)))) (fun (r : Fin 16) _ => by rw [total_y r])]
  unfold claims
  iintro ⟨HG, -, H1, -, H3⟩
  isplitl [HG]; · iexact HG
  isplitl [H1]; · iexact H1
  iexact H3

/-! ## The side conditions -/

/-- What the launch hands a device is what its body begins with, -/
theorem start_intro (c : Dev nD) :
    iprop(Pipeline.unscopedRestP Pipeline.Prefetch.none cfg0.spec c (fun b => m ((c : Thread nD τ).loc b)) ∗ levAts named level
        ∗ Pipeline.launchCred debt0 c ∗ prngReg c (ρ c) ∗ ghost m c)
      ⊢ |={Set.univ}=> iprop(start m c ∗ emp) := by
  iintro ⟨-, Hlev, Hcr, -, HG⟩
  ihave Hc := (credit (F := F) c) $$ Hcr
  imodintro
  unfold start
  isplitl
  · isplitl [HG]; · iexact HG
    isplitl [Hc] <;> iassumption
  · iempintro

/-- with the staging buffers it is the state before the one point, -/
theorem first_state (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- and the state after that point gives back what the launch asks for. -/
theorem last_state (c : Dev nD) :
    (dats m 0 c).Φ (Fin.last cfg0.N) ⊢ iprop(unscopedSems0 c ∗ Pipeline.ownSems0 own c ∗ Pipeline.scopedRest cfg0.spec c) := by
  rw [show (dats m 0 c).Φ (Fin.last cfg0.N) = closed c from rfl, scopedRest0_eq]
  have e : (closed c : sProp 𝕄) = iprop(Pipeline.ownSems0 own c ∗ unscopedSems0 c) := by
    rw [zeros_eq, over_slots]; rfl
  rw [e]
  iintro ⟨Ho, Hu⟩
  isplitl [Hu]; · iexact Hu
  isplitl [Ho]; · iexact Ho
  iempintro

/-- The pipeline's own semaphores are lowest in the order, -/
theorem stage_level : ∀ (w : Fin cfg0.W) (s : Fin (cfg0.spec w).nbuf) (c : Dev nD), level ((c : Thread nD τ), .dma ((cfg0.spec w).sem s)) () ≤ 0 := by
  decide

/-- so the pipeline may wait on them whatever a device owes. -/
theorem waits (c : Dev nD) : (levAts named level : sProp 𝕄) ⊢ Pipeline.cellsWaits cfgs (dats m) () 0 c :=
  Pipeline.cellsWaits_intro cfgs (dats m) () 0 c fun w s t => by
    rcases t with ⟨_ | _, ht⟩
    · exact may_wait c _ (debt0 c) (stage_level w s c) (above_debt0 c)
    · exact may_wait c _ 0 (stage_level w s c) (above_zero 0)

/-- The pipeline holds every array in full. -/
theorem share_full (c : Dev nD) (w : Fin cfg0.W) : (dats m 0 c).share w = fullShare := by unfold Dat.share; split <;> rfl

/-! ## The run -/

/-- What each array holds at the end. -/
def atEnd (c : Dev nD) (w : Fin cfg0.W) : Buf (Elt F) ((cfg0.win w).arr.view.loc (c : Thread nD τ)) := (dats m 0 c).arrAt w cfg0.N

set_option maxRecDepth 8000 in
/-- From any memory with zero counters, every fair run of the four devices ends, with each array at its final contents and
    every semaphore at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = atEnd m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) eP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := debt0) (howed₀ := fun _ => rfl) (howedN := fun _ => rfl)
    (L := named) (lv := level) (hL := named_of_ne) (hwaits := waits m)
    (G := dealt m) (G' := ghost m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_intro m ρ) (hin := first_state m) (hout := last_state m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather
-- ==== Proof.Value.lean ====
/-
# What the run leaves, read

The launch states each array's final contents by the pipeline's windows. Both windows are whole arrays: the first array is
as it was, the second is the assembled output. Where every device's block of `x` is its part of one whole array, that
output is the whole array, on every device.
-/
module

public import proofs.«01_k».proof.Defs
public import proofs.«01_k».proof.Proof.Run
public import proofs.«01_k».proof.Proof.Gen.Kernel
public import proofs.«01_k».proof.Proof.Gen.ReferenceIdeal
public import Idealize.ShloMosaic.Lib.StableHlo.Run
public import Idealize.ShloMosaic.Lib.Quiescent
public import Idealize.ShloMosaic.Lib.Layout

@[expose] public section

noncomputable section

namespace Cert.Gather

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F] (m : (ℓ : Loc nD τ sig) → Buf (Elt F) ℓ)

/-! ## The windows' arrays -/

/-- The only block of a window on `x` starts at its first element: reading it is reading `x`. -/
theorem xAt_eq (c : Dev nD) : xAt m c = m ((c : Thread nD τ).loc main_arg0) := by
  funext i
  show m ((c : Thread nD τ).loc main_arg0) _ = m ((c : Thread nD τ).loc main_arg0) i
  refine congrArg _ (funext fun a => Fin.ext ?_)
  revert a
  refine Fin.forall_fin_two.mpr ⟨?_, ?_⟩
  · show 0 * 1024 + 1 * (i 0).val = (i 0).val; omega
  · show 0 * 512 + 1 * (i 1).val = (i 1).val; omega

/-- The same for the output's window: contents read through its block are the contents. -/
theorem out_block (f : (cc0_stg1_0 : Ref sig .tc).ty.Contents (Elt F)) : (win0_1.blk (0 : Fin 1)).view.read (Elt F) f = f := by
  funext i
  show f _ = f i
  refine congrArg _ (funext fun a => Fin.ext ?_)
  revert a
  refine Fin.forall_fin_two.mpr ⟨?_, ?_⟩
  · show 0 * 2048 + 1 * (i 0).val = (i 0).val; omega
  · show 0 * 512 + 1 * (i 1).val = (i 1).val; omega

/-- The output's block has every element. -/
theorem out_cover (i : S2048x512.Idx) : i ∈ (win0_1.blk (0 : Fin 1)).view.set := by
  show i ∈ ((View.whole main_v1).slice (win0_1.rect (0 : Fin 1))).set
  rw [View.set_slice_whole, Rect.mem_set_unit]
  refine Fin.forall_fin_two.mpr ⟨?_, ?_⟩
  · have := row_lt i
    show 0 * 2048 ≤ (i 0).val ∧ (i 0).val < 0 * 2048 + 2048
    omega
  · have := col_lt i
    show 0 * 512 ≤ (i 1).val ∧ (i 1).val < 0 * 512 + 512
    omega

/-- The kernel leaves `x` as it was, -/
theorem atEnd_x (c : Dev nD) : atEnd m c (0 : Fin 2) = m ((c : Thread nD τ).loc main_arg0) :=
  (dats m 0 c).arrAt_in (0 : Fin 2) rfl _

/-- and the output assembled. -/
theorem atEnd_out (c : Dev nD) : atEnd m c (1 : Fin 2) = outAt m c := by
  refine (dats m 0 c).arrAt_eq_of_cover (1 : Fin 2) (outAt m c) (fun t _ => ?_) fun i => ⟨t0_0, flush0_1 _, out_cover i⟩
  obtain rfl := fin_N0 t
  exact (show (dats m 0 c).flushed (1 : Fin 2) t0_0 = outAt m c from rfl).trans (out_block (outAt m c)).symm

/-- The run of the kernel, read: `x` is as it was, the output is assembled, and every counter is back at zero. -/
theorem run_read (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_v1) = outAt m c) ∧ r.2.sem = fun _ => 0) :=
  (θ_run defs _ _).mono (fun r h => ⟨fun c => ⟨(h.1 c (0 : Fin 2)).trans (atEnd_x m c), (h.1 c (1 : Fin 2)).trans (atEnd_out m c)⟩, h.2⟩)
    (run_main m ρ)

/-! ## The whole array -/

/-- The device a half is taken from holds the block of `x` that half is in. -/
theorem source_block (c h : Dev nD) : (source c h).val / 2 = h.val / 2 := by revert c h; decide +kernel

/-- The part of a whole array that a device is given. -/
abbrev part (c : Dev nD) (v : S2048x512.Idx → F .bf16) : S1024x512.Idx → F .bf16 :=
  Layout.blockN ⟨2, ![1024, 512]⟩ ⟨2, ![2048, 512]⟩ (Layout.meshBlock [2, 2] ![[0], []] c) v

/-- An element of the whole array is in the part of any device of its block's row of the mesh, at its place within the block. -/
theorem part_within (v : S2048x512.Idx → F .bf16) (d : Dev nD) (i : S2048x512.Idx) (e : d.val / 2 = (i 0).val / 1024) :
    part d v (within i) = v i := by
  refine congrArg v (funext fun a => Fin.ext ?_)
  have hd := dev_lt d
  revert a
  refine Fin.forall_fin_two.mpr ⟨?_, ?_⟩
  · show (d.val / 2 % 2 * 1 + 0) * 1024 + (i 0).val % 1024 = (i 0).val
    omega
  · show 0 * 512 + (i 1).val = (i 1).val
    omega

/-- Where each device holds its part of `v`, the output assembled is `v`, whichever device assembles it. -/
theorem out_whole (v : S2048x512.Idx → F .bf16) (hx : ∀ c : Dev nD, m ((c.tc : Thread nD τ).loc main_arg0) = part c v) (c : Dev nD) :
    outAt m c = v := by
  funext i
  show xAt m (source c (halfOf i)) (within i) = v i
  rw [xAt_eq]
  refine (congrFun (hx _) _).trans (part_within v _ i ?_)
  rw [source_block]
  show (i 0).val / 512 / 2 = (i 0).val / 1024
  omega

end Cert.Gather

/-! ## The kernel at the machine's floats

`Kernel` and `KernelIdeal` are one text, so what is proved of the second for every family of floats is read of the first.
-/

namespace Cert.Gather

open Idealize.ShloMosaic
open Idealize.ShloMosaic.TcCoe
open Idealize.SL.Sem

variable {F : FTy → Type} [FloatOps F]

open Cert.KernelIdeal in
set_option maxRecDepth 65536 in
set_option maxHeartbeats 4000000 in
/-- The body of `Kernel` is the same loops, -/
theorem body_same : Cert.Kernel.cc0_body (F := F) xM xW oM oW cc0_scratch0 cc0_scratch1 cc0_scratch2 cc0_scratch3
    = Prog.op .deviceId fun d => compact d := rfl

/-- so its body table is `KernelIdeal`'s, -/
theorem table_same : Cert.Kernel.defs₀ (F := F) = Cert.KernelIdeal.defs₀ (F := F) := by
  refine congrArg Defs.onTc (funext fun ℓ => funext fun a => ?_)
  match ℓ, a with
  | 0, (t, s) => exact body_same.trans body_eq.symm

/-- and what surrounds it too. -/
theorem defs_same : Cert.Kernel.defs (F := F) = Cert.KernelIdeal.defs (F := F) := congrArg _ table_same

open Cert.Kernel in
/-- The run of `Kernel`: its argument and its counters are as they were. -/
theorem run_kernel (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) := by
  rw [defs_same]
  exact (θ_run Cert.KernelIdeal.defs _ _).mono (fun _ h => ⟨fun c => (h.1 c).1, h.2⟩) (run_read m ρ)

end Cert.Gather

/-! ## The reference -/

namespace Cert.Gather.Ref

open Cert.ReferenceIdeal Cert.ReferenceIdeal.Gen
open Idealize.ShloMosaic
open Idealize.ShloMosaic.TcCoe
open Idealize.SL.Sem

/-- The reference hands its argument on: it ends with every array as it was and every counter at zero. -/
theorem run_read {F : FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) _⟩)
    (StableHlo.run_seq (by decide +kernel) (by decide +kernel) defs main (fun _ => []) (fun _ => rfl) (fun _ => trivial) m ρ)

end Cert.Gather.Ref

end
-- ==== Proof.lean ====
/-
# The certificate

The claims of `Defs.lean`, from the one run proved in `Proof/Run.lean` and its reading in `Proof/Value.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem

/-- The kernel runs to its end, its argument and its counters as they were: at the machine's floats, -/
theorem frame_kernel : Cert.quiescent_Kernel := fun m g _ => Cert.Gather.run_kernel (F := Bits) m g

/-- at the ideal reading, -/
theorem frame_ideal : Cert.quiescent_KernelIdeal := fun m g _ =>
  (θ_run Cert.KernelIdeal.defs _ _).mono (fun _ h => ⟨fun c => (h.1 c).1, h.2⟩) (Cert.Gather.run_read (F := Ideal) m g)

/-- and for the reference. -/
theorem frame_reference : Cert.quiescent_ReferenceIdeal := fun m g _ => Cert.Gather.Ref.run_read (F := Ideal) m g

/-- Every device of the kernel ends with the whole array of which each was given its part, which is what the reference
    returns. -/
theorem gathers : Cert.algebraic_KernelIdeal_ReferenceIdeal := fun m g m' g' _ hx =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).2.trans (Cert.Gather.out_whole (F := Ideal) m _ hx c), (h.1 c).1⟩) (Cert.Gather.run_read (F := Ideal) m g),
    (θ_run Cert.ReferenceIdeal.defs _ _).mono (fun _ h => ⟨h.1 0, h.1 0⟩) (Cert.Gather.Ref.run_read (F := Ideal) m' g')⟩

/-- `Cert.Claim` (Defs.lean). -/
theorem claim : Cert.Claim :=
  ⟨Cert.Kernel.Gen.facts, Cert.KernelIdeal.Gen.facts, Cert.ReferenceIdeal.Gen.facts,
    frame_kernel, frame_ideal, frame_reference, trivial, gathers⟩

end Cert.Proof

end
